-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_x2_scale_ok [hPre_x2_scale_ok : Cert.Pre_x2_scale_ok.Facts] (m : (ℓ : Loc Cert.ProjIdeal.nD Cert.ProjIdeal.τ Cert.ProjIdeal.sig) → Buf (Elt Ideal) ℓ) : Prop :=
  ∀ c : Dev Cert.ProjIdeal.nD,
    (Cert.Pre_x2_scale_ok.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_x2_scale_ok [hPre_x2_scale_ok : Cert.Pre_x2_scale_ok.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_x2_scale_ok.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_x2_scale_ok [hProjIdeal : Cert.ProjIdeal.Facts] [hPre_x2_scale_ok : Cert.Pre_x2_scale_ok.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_x2_scale_ok m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_ProjReferenceIdeal_pre_x2_scale_ok [hProjReferenceIdeal : Cert.ProjReferenceIdeal.Facts] [hPre_x2_scale_ok : Cert.Pre_x2_scale_ok.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_x2_scale_ok m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def preserves_Kernel_KernelIdeal : Prop :=
  True

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v3_0)) (v1 : (c : Dev Cert.MlpIdeal.nD) → Buf (Elt Ideal) ((c.tc : Thread Cert.MlpIdeal.nD Cert.MlpIdeal.τ).loc Cert.MlpIdeal.main_v3_1)) (v2 : (c : Dev Cert.MlpIdeal.nD) → Buf (Elt Ideal) ((c.tc : Thread Cert.MlpIdeal.nD Cert.MlpIdeal.τ).loc Cert.MlpIdeal.main_v3_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3_0) = v0 c
          ∧ r.2.mem ((c.tc : Thread Cert.MlpIdeal.nD Cert.MlpIdeal.τ).loc Cert.MlpIdeal.main_v3_1) = v1 c
          ∧ r.2.mem ((c.tc : Thread Cert.MlpIdeal.nD Cert.MlpIdeal.τ).loc Cert.MlpIdeal.main_v3_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v2_0) = v0 c
          ∧ r.2.mem ((c.tc : Thread Cert.MlpReferenceIdeal.nD Cert.MlpReferenceIdeal.τ).loc Cert.MlpReferenceIdeal.main_v2_1) = v1 c
          ∧ r.2.mem ((c.tc : Thread Cert.MlpReferenceIdeal.nD Cert.MlpReferenceIdeal.τ).loc Cert.MlpReferenceIdeal.main_v2_2) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6))

def preserves_Proj_ProjIdeal : Prop :=
  True

def algebraic_ProjIdeal_ProjReferenceIdeal_pre_x2_scale_ok [hProjIdeal : Cert.ProjIdeal.Facts] [hProjReferenceIdeal : Cert.ProjReferenceIdeal.Facts] [hPre_x2_scale_ok : Cert.Pre_x2_scale_ok.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_x2_scale_ok m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4_0) = v0 c
          ∧ r.2.mem ((c.tc : Thread Cert.ProjReferenceIdeal.nD Cert.ProjReferenceIdeal.τ).loc Cert.ProjReferenceIdeal.main_v4_1) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hProj : Cert.Proj.Facts) (hProjIdeal : Cert.ProjIdeal.Facts) (hProjReferenceIdeal : Cert.ProjReferenceIdeal.Facts) (hPre_scales_ok : Cert.Pre_scales_ok.Facts) (hPre_x2_scale_ok : Cert.Pre_x2_scale_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Proj (hProj := hProj)
    ∧ quiescent_ProjIdeal (hProjIdeal := hProjIdeal)
    ∧ quiescent_ProjIdeal_pre_x2_scale_ok (hProjIdeal := hProjIdeal) (hPre_x2_scale_ok := hPre_x2_scale_ok)
    ∧ quiescent_ProjReferenceIdeal (hProjReferenceIdeal := hProjReferenceIdeal)
    ∧ quiescent_ProjReferenceIdeal_pre_x2_scale_ok (hProjReferenceIdeal := hProjReferenceIdeal) (hPre_x2_scale_ok := hPre_x2_scale_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
    ∧ preserves_Mlp_MlpIdeal
    ∧ algebraic_MlpIdeal_MlpReferenceIdeal (hMlpIdeal := hMlpIdeal) (hMlpReferenceIdeal := hMlpReferenceIdeal)
    ∧ preserves_Proj_ProjIdeal
    ∧ algebraic_ProjIdeal_ProjReferenceIdeal_pre_x2_scale_ok (hProjIdeal := hProjIdeal) (hProjReferenceIdeal := hProjReferenceIdeal) (hPre_x2_scale_ok := hPre_x2_scale_ok)
-- ==== Pre_scales_ok.lean ====
abbrev S2304x4096 : Shape := ⟨2, ![2304, 4096]⟩
abbrev S2304x64 : Shape := ⟨2, ![2304, 64]⟩
abbrev S4096 : Shape := ⟨1, ![4096]⟩
abbrev S_ : Shape := ⟨0, ![]⟩
abbrev S4096x3072 : Shape := ⟨2, ![4096, 3072]⟩
abbrev S3 : Shape := ⟨1, ![3]⟩
abbrev S1 : Shape := ⟨1, ![1]⟩

class Facts : Prop where
  slices_S3_S1_0 : S3.Slices ![0] S1
  shapeCasts_S1_S_ : S1.ShapeCasts S_
  slices_S3_S1_1 : S3.Slices ![1] S1

variable [Facts]

def fn_part1 {F : FTy → Type} [FloatOps F] (main_arg7 : FVec F S_ .f32) (main_arg8 : FVec F S_ .f32) (main_arg9 : FVec F S_ .f32) (main_v14 : IVec S_ 1) (main_v17 : IVec S_ 1) : IVec S_ 1 :=
  let main_v18 : IVec S_ 1 := andi main_v14 main_v17
  let main_cst_5 : FVec F S_ .f32 := constant S_ .f32 0x00000000#32
  let main_v19 : IVec S_ 1 := cmpf .une main_arg7 main_cst_5
  let main_v20 : IVec S_ 1 := andi main_v18 main_v19
  let main_cst_6 : FVec F S_ .f32 := constant S_ .f32 0x00000000#32
  let main_v21 : IVec S_ 1 := cmpf .une main_arg8 main_cst_6
  let main_v22 : IVec S_ 1 := andi main_v20 main_v21
  let main_cst_7 : FVec F S_ .f32 := constant S_ .f32 0x00000000#32
  let main_v23 : IVec S_ 1 := cmpf .une main_arg9 main_cst_7
  let main_v24 : IVec S_ 1 := andi main_v22 main_v23
  main_v24

def fn {F : FTy → Type} [FloatOps F] (main_arg0 : FVec F S2304x4096 .bf16) (main_arg1 : FVec F S2304x64 .f32) (main_arg2 : FVec F S2304x64 .f32) (main_arg3 : FVec F S4096 .f32) (main_arg4 : FVec F S_ .f32) (main_arg5 : FVec F S4096x3072 .fp8e4m3) (main_arg6 : FVec F S3 .f32) (main_arg7 : FVec F S_ .f32) (main_arg8 : FVec F S_ .f32) (main_arg9 : FVec F S_ .f32) : IVec S_ 1 :=
  let main_cst : FVec F S_ .f32 := constant S_ .f32 0x00000000#32
  let main_v0 : IVec S_ 1 := cmpf .ogt main_arg4 main_cst
  let main_cst_0 : FVec F S_ .f32 := constant S_ .f32 0x7F800000#32
  let main_v1 : IVec S_ 1 := cmpf .olt main_arg4 main_cst_0
  let main_v2 : IVec S_ 1 := andi main_v0 main_v1
  let main_v3 : FVec F S1 .f32 := (extractStridedSlice S1 ![0] · slices_S3_S1_0) main_arg6
  let main_v4 : FVec F S_ .f32 := shapeCast S_ main_v3 shapeCasts_S1_S_
  let main_cst_1 : FVec F S_ .f32 := constant S_ .f32 0x00000000#32
  let main_v5 : IVec S_ 1 := cmpf .oge main_v4 main_cst_1
  let main_v6 : IVec S_ 1 := andi main_v2 main_v5
  let main_v7 : FVec F S1 .f32 := (extractStridedSlice S1 ![0] · slices_S3_S1_0) main_arg6
  let main_v8 : FVec F S_ .f32 := shapeCast S_ main_v7 shapeCasts_S1_S_
  let main_cst_2 : FVec F S_ .f32 := constant S_ .f32 0x7F800000#32
  let main_v9 : IVec S_ 1 := cmpf .olt main_v8 main_cst_2
  let main_v10 : IVec S_ 1 := andi main_v6 main_v9
  let main_v11 : FVec F S1 .f32 := (extractStridedSlice S1 ![1] · slices_S3_S1_1) main_arg6
  let main_v12 : FVec F S_ .f32 := shapeCast S_ main_v11 shapeCasts_S1_S_
  let main_cst_3 : FVec F S_ .f32 := constant S_ .f32 0x00000000#32
  let main_v13 : IVec S_ 1 := cmpf .oge main_v12 main_cst_3
  let main_v14 : IVec S_ 1 := andi main_v10 main_v13
  let main_v15 : FVec F S1 .f32 := (extractStridedSlice S1 ![1] · slices_S3_S1_1) main_arg6
  let main_v16 : FVec F S_ .f32 := shapeCast S_ main_v15 shapeCasts_S1_S_
  let main_cst_4 : FVec F S_ .f32 := constant S_ .f32 0x7F800000#32
  let main_v17 : IVec S_ 1 := cmpf .olt main_v16 main_cst_4
  fn_part1 (F := F) main_arg7 main_arg8 main_arg9 main_v14 main_v17
-- ==== Pre_x2_scale_ok.lean ====
abbrev S2304x2048 : Shape := ⟨2, ![2304, 2048]⟩
abbrev S2304x4096 : Shape := ⟨2, ![2304, 4096]⟩
abbrev S2048x4096 : Shape := ⟨2, ![2048, 4096]⟩
abbrev S_ : Shape := ⟨0, ![]⟩
abbrev S4096 : Shape := ⟨1, ![4096]⟩

class Facts : Prop where

variable [Facts]

def fn {F : FTy → Type} [FloatOps F] (main_arg0 : FVec F S2304x2048 .fp8e4m3) (main_arg1 : FVec F S2304x4096 .bf16) (main_arg2 : FVec F S2048x4096 .fp8e4m3) (main_arg3 : FVec F S_ .f32) (main_arg4 : FVec F S4096 .f32) (main_arg5 : FVec F S_ .f32) (main_arg6 : FVec F S_ .f32) : IVec S_ 1 :=
  let main_cst : FVec F S_ .f32 := constant S_ .f32 0x00000000#32
  let main_v0 : IVec S_ 1 := cmpf .une main_arg6 main_cst
  main_v0
-- ==== Kernel.lean ====
abbrev S2304x4096 : Shape := ⟨2, ![2304, 4096]⟩
abbrev S2304x64 : Shape := ⟨2, ![2304, 64]⟩
abbrev S4096 : Shape := ⟨1, ![4096]⟩
abbrev S_ : Shape := ⟨0, ![]⟩
abbrev S4096x3072 : Shape := ⟨2, ![4096, 3072]⟩
abbrev S3 : Shape := ⟨1, ![3]⟩
abbrev S1x4096 : Shape := ⟨2, ![1, 4096]⟩
abbrev S1 : Shape := ⟨1, ![1]⟩
abbrev S2304x2048 : Shape := ⟨2, ![2304, 2048]⟩
abbrev S2304x512 : Shape := ⟨2, ![2304, 512]⟩
abbrev S256x4096 : Shape := ⟨2, ![256, 4096]⟩
abbrev S256x64 : Shape := ⟨2, ![256, 64]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S4096x512 : Shape := ⟨2, ![4096, 512]⟩

abbrev nBuf : Space → Nat
  | .hbm => 19
  | .vmem => 16
  | .smem => 5
  | _ => 0

abbrev bufTy : (tb : Table) → Fin (tcTables nBuf tb) → BufTy
  | .hbm, ⟨0, _⟩ => ⟨S2304x4096, .bf16⟩
  | .hbm, ⟨1, _⟩ => ⟨S2304x64, .f32⟩
  | .hbm, ⟨2, _⟩ => ⟨S2304x64, .f32⟩
  | .hbm, ⟨3, _⟩ => ⟨S4096, .f32⟩
  | .hbm, ⟨4, _⟩ => ⟨S_, .f32⟩
  | .hbm, ⟨5, _⟩ => ⟨S4096x3072, .fp8e4m3⟩
  | .hbm, ⟨6, _⟩ => ⟨S3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x4096, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S2304x4096, .fp8e4m3⟩
  | .hbm, ⟨16, _⟩ => ⟨S2304x2048, .fp8e4m3⟩
  | .hbm, ⟨17, _⟩ => ⟨S2304x512, .fp8e4m3⟩
  | .hbm, ⟨18, _⟩ => ⟨S2304x512, .fp8e4m3⟩
  | .local _ .vmem, ⟨0, _⟩ => ⟨S256x4096, .bf16⟩
  | .local _ .vmem, ⟨1, _⟩ => ⟨S256x4096, .bf16⟩
  | .local _ .vmem, ⟨2, _⟩ => ⟨S4096x3072, .fp8e4m3⟩
  | .local _ .vmem, ⟨3, _⟩ => ⟨S1x4096, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x4096, .fp8e4m3⟩
  | .local _ .vmem, ⟨9, _⟩ => ⟨S256x4096, .fp8e4m3⟩
  | .local _ .vmem, ⟨10, _⟩ => ⟨S256x2048, .fp8e4m3⟩
  | .local _ .vmem, ⟨11, _⟩ => ⟨S256x2048, .fp8e4m3⟩
  | .local _ .vmem, ⟨12, _⟩ => ⟨S256x512, .fp8e4m3⟩
  | .local _ .vmem, ⟨13, _⟩ => ⟨S256x512, .fp8e4m3⟩
  | .local _ .vmem, ⟨14, _⟩ => ⟨S256x512, .fp8e4m3⟩
  | .local _ .vmem, ⟨15, _⟩ => ⟨S256x512, .fp8e4m3⟩
  | .local _ .smem, ⟨0, _⟩ => ⟨S1, .f32⟩
  | .local _ .smem, ⟨1, _⟩ => ⟨S3, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg8_1 : Ref sig .tc := ⟨.vmem, 5, rfl⟩
abbrev cc0_stg9_0 : Ref sig .tc := ⟨.vmem, 6, rfl⟩
abbrev cc0_stg9_1 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![9], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2304x4096 : Shape := ⟨2, ![2304, 4096]⟩
abbrev S2304x64 : Shape := ⟨2, ![2304, 64]⟩
abbrev S4096 : Shape := ⟨1, ![4096]⟩
abbrev S_ : Shape := ⟨0, ![]⟩
abbrev S4096x3072 : Shape := ⟨2, ![4096, 3072]⟩
abbrev S3 : Shape := ⟨1, ![3]⟩
abbrev S1 : Shape := ⟨1, ![1]⟩
abbrev S1x4096 : Shape := ⟨2, ![1, 4096]⟩
abbrev S2304x2048 : Shape := ⟨2, ![2304, 2048]⟩
abbrev S2304x512 : Shape := ⟨2, ![2304, 512]⟩
abbrev S2304 : Shape := ⟨1, ![2304]⟩
abbrev S2304x1 : Shape := ⟨2, ![2304, 1]⟩
abbrev S2304x3072 : Shape := ⟨2, ![2304, 3072]⟩

abbrev nBuf : Space → Nat
  | .hbm => 19
  | .vmem => 9
  | .smem => 5
  | _ => 0

abbrev bufTy : (tb : Table) → Fin (tcTables nBuf tb) → BufTy
  | .hbm, ⟨0, _⟩ => ⟨S2304x4096, .bf16⟩
  | .hbm, ⟨1, _⟩ => ⟨S2304x64, .f32⟩
  | .hbm, ⟨2, _⟩ => ⟨S2304x64, .f32⟩
  | .hbm, ⟨3, _⟩ => ⟨S4096, .f32⟩
  | .hbm, ⟨4, _⟩ => ⟨S_, .f32⟩
  | .hbm, ⟨5, _⟩ => ⟨S4096x3072, .fp8e4m3⟩
  | .hbm, ⟨6, _⟩ => ⟨S3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1x4096, .f32⟩
  | .hbm, ⟨15, _⟩ => ⟨S2304x4096, .fp8e4m3⟩
  | .hbm, ⟨16, _⟩ => ⟨S2304x2048, .fp8e4m3⟩
  | .hbm, ⟨17, _⟩ => ⟨S2304x512, .fp8e4m3⟩
  | .hbm, ⟨18, _⟩ => ⟨S2304x512, .fp8e4m3⟩
  | .local _ .vmem, ⟨0, _⟩ => ⟨S2304x4096, .bf16⟩
  | .local _ .vmem, ⟨1, _⟩ => ⟨S4096x3072, .fp8e4m3⟩
  | .local _ .vmem, ⟨2, _⟩ => ⟨S1x4096, .f32⟩
  | .local _ .vmem, ⟨3, _⟩ => ⟨S2304x64, .f32⟩
  | .local _ .vmem, ⟨4, _⟩ => ⟨S2304x64, .f32⟩
  | .local _ .vmem, ⟨5, _⟩ => ⟨S2304x4096, .fp8e4m3⟩
  | .local _ .vmem, ⟨6, _⟩ => ⟨S2304x2048, .fp8e4m3⟩
  | .local _ .vmem, ⟨7, _⟩ => ⟨S2304x512, .fp8e4m3⟩
  | .local _ .vmem, ⟨8, _⟩ => ⟨S2304x512, .fp8e4m3⟩
  | .local _ .smem, ⟨0, _⟩ => ⟨S1, .f32⟩
  | .local _ .smem, ⟨1, _⟩ => ⟨S3, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg13_0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2304x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2304x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2304x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2304x2048 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2304x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2304x512 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Mlp.lean ====
abbrev S2304x4096 : Shape := ⟨2, ![2304, 4096]⟩
abbrev S4096x14336 : Shape := ⟨2, ![4096, 14336]⟩
abbrev S2 : Shape := ⟨1, ![2]⟩
abbrev S_ : Shape := ⟨0, ![]⟩
abbrev S7168x4096 : Shape := ⟨2, ![7168, 4096]⟩
abbrev S1 : Shape := ⟨1, ![1]⟩
abbrev S2304x7168 : Shape := ⟨2, ![2304, 7168]⟩
abbrev S2304x128 : Shape := ⟨2, ![2304, 128]⟩
abbrev S4096x512 : Shape := ⟨2, ![4096, 512]⟩
abbrev S2304x512 : Shape := ⟨2, ![2304, 512]⟩
abbrev S256x4096 : Shape := ⟨2, ![256, 4096]⟩
abbrev S256x512 : Shape := ⟨2, ![256, 512]⟩
abbrev S256x128 : Shape := ⟨2, ![256, 128]⟩
abbrev S2304x1 : Shape := ⟨2, ![2304, 1]⟩
abbrev S192x7168 : Shape := ⟨2, ![192, 7168]⟩
abbrev S192x128 : Shape := ⟨2, ![192, 128]⟩
abbrev S192x4096 : Shape := ⟨2, ![192, 4096]⟩
abbrev S192x1 : Shape := ⟨2, ![192, 1]⟩
abbrev S192 : Shape := ⟨1, ![192]⟩
abbrev S192x512 : Shape := ⟨2, ![192, 512]⟩
abbrev S7168x512 : Shape := ⟨2, ![7168, 512]⟩

abbrev nBuf : Space → Nat
  | .hbm => 14
  | .vmem => 21
  | .smem => 3
  | _ => 0

abbrev bufTy : (tb : Table) → Fin (tcTables nBuf tb) → BufTy
  | .hbm, ⟨0, _⟩ => ⟨S2304x4096, .fp8e4m3⟩
  | .hbm, ⟨1, _⟩ => ⟨S2304x4096, .f32⟩
  | .hbm, ⟨2, _⟩ => ⟨S4096x14336, .fp8e4m3⟩
  | .hbm, ⟨3, _⟩ => ⟨S2, .f32⟩
  | .hbm, ⟨4, _⟩ => ⟨S_, .f32⟩
  | .hbm, ⟨5, _⟩ => ⟨S7168x4096, .fp8e4m3⟩
  | .hbm, ⟨6, _⟩ => ⟨S_, .f32⟩
  | .hbm, ⟨7, _⟩ => ⟨S1, .f32⟩
  | .hbm, ⟨8, _⟩ => ⟨S2304x7168, .f32⟩
  | .hbm, ⟨9, _⟩ => ⟨S2304x128, .f32⟩
  | .hbm, ⟨10, _⟩ => ⟨S1, .f32⟩
  | .hbm, ⟨11, _⟩ => ⟨S2304x7168, .fp8e4m3⟩
  | .hbm, ⟨12, _⟩ => ⟨S2304x1, .f32⟩
  | .hbm, ⟨13, _⟩ => ⟨S2304x4096, .bf16⟩
  | .local _ .vmem, ⟨0, _⟩ => ⟨S2304x4096, .fp8e4m3⟩
  | .local _ .vmem, ⟨1, _⟩ => ⟨S4096x512, .fp8e4m3⟩
  | .local _ .vmem, ⟨2, _⟩ => ⟨S4096x512, .fp8e4m3⟩
  | .local _ .vmem, ⟨3, _⟩ => ⟨S4096x512, .fp8e4m3⟩
  | .local _ .vmem, ⟨4, _⟩ => ⟨S4096x512, .fp8e4m3⟩
  | .local _ .vmem, ⟨5, _⟩ => ⟨S2304x512, .f32⟩
  | .local _ .vmem, ⟨6, _⟩ => ⟨S2304x512, .f32⟩
  | .local _ .vmem, ⟨7, _⟩ => ⟨S2304x128, .f32⟩
  | .local _ .vmem, ⟨8, _⟩ => ⟨S192x7168, .f32⟩
  | .local _ .vmem, ⟨9, _⟩ => ⟨S192x7168, .f32⟩
  | .local _ .vmem, ⟨10, _⟩ => ⟨S192x128, .f32⟩
  | .local _ .vmem, ⟨11, _⟩ => ⟨S192x128, .f32⟩
  | .local _ .vmem, ⟨12, _⟩ => ⟨S192x4096, .f32⟩
  | .local _ .vmem, ⟨13, _⟩ => ⟨S192x4096, .f32⟩
  | .local _ .vmem, ⟨14, _⟩ => ⟨S7168x4096, .fp8e4m3⟩
  | .local _ .vmem, ⟨15, _⟩ => ⟨S192x7168, .fp8e4m3⟩
  | .local _ .vmem, ⟨16, _⟩ => ⟨S192x7168, .fp8e4m3⟩
  | .local _ .vmem, ⟨17, _⟩ => ⟨S192x1, .f32⟩
  | .local _ .vmem, ⟨18, _⟩ => ⟨S192x1, .f32⟩
  | .local _ .vmem, ⟨19, _⟩ => ⟨S192x4096, .bf16⟩
  | .local _ .vmem, ⟨20, _⟩ => ⟨S192x4096, .bf16⟩
  | .local _ .smem, ⟨0, _⟩ => ⟨S1, .f32⟩
  | .local _ .smem, ⟨1, _⟩ => ⟨S2, .f32⟩
  | .local _ .smem, ⟨2, _⟩ => ⟨S1, .f32⟩
  | _, _ => ⟨S2304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![14], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2304x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![12], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S192x7168 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S192x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S7168x4096 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S192x7168 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S192x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S192x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== MlpReferenceIdeal.lean ====
abbrev S2304x4096 : Shape := ⟨2, ![2304, 4096]⟩
abbrev S4096x14336 : Shape := ⟨2, ![4096, 14336]⟩
abbrev S2 : Shape := ⟨1, ![2]⟩
abbrev S_ : Shape := ⟨0, ![]⟩
abbrev S7168x4096 : Shape := ⟨2, ![7168, 4096]⟩
abbrev S1 : Shape := ⟨1, ![1]⟩
abbrev S2304x7168 : Shape := ⟨2, ![2304, 7168]⟩
abbrev S2304x1 : Shape := ⟨2, ![2304, 1]⟩
abbrev S2304x14336 : Shape := ⟨2, ![2304, 14336]⟩
abbrev S2304 : Shape := ⟨1, ![2304]⟩

abbrev nBuf : Space → Nat
  | .hbm => 12
  | .vmem => 7
  | .smem => 3
  | _ => 0

abbrev bufTy : (tb : Table) → Fin (tcTables nBuf tb) → BufTy
  | .hbm, ⟨0, _⟩ => ⟨S2304x4096, .fp8e4m3⟩
  | .hbm, ⟨1, _⟩ => ⟨S2304x4096, .f32⟩
  | .hbm, ⟨2, _⟩ => ⟨S4096x14336, .fp8e4m3⟩
  | .hbm, ⟨3, _⟩ => ⟨S2, .f32⟩
  | .hbm, ⟨4, _⟩ => ⟨S_, .f32⟩
  | .hbm, ⟨5, _⟩ => ⟨S7168x4096, .fp8e4m3⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2304x7168, .fp8e4m3⟩
  | .hbm, ⟨10, _⟩ => ⟨S2304x1, .f32⟩
  | .hbm, ⟨11, _⟩ => ⟨S2304x4096, .bf16⟩
  | .local _ .vmem, ⟨0, _⟩ => ⟨S2304x4096, .fp8e4m3⟩
  | .local _ .vmem, ⟨1, _⟩ => ⟨S2304x4096, .f32⟩
  | .local _ .vmem, ⟨2, _⟩ => ⟨S4096x14336, .fp8e4m3⟩
  | .local _ .vmem, ⟨3, _⟩ => ⟨S7168x4096, .fp8e4m3⟩
  | .local _ .vmem, ⟨4, _⟩ => ⟨S2304x7168, .fp8e4m3⟩
  | .local _ .vmem, ⟨5, _⟩ => ⟨S2304x1, .f32⟩
  | .local _ .vmem, ⟨6, _⟩ => ⟨S2304x4096, .bf16⟩
  | .local _ .smem, ⟨0, _⟩ => ⟨S1, .f32⟩
  | .local _ .smem, ⟨1, _⟩ => ⟨S2, .f32⟩
  | .local _ .smem, ⟨2, _⟩ => ⟨S1, .f32⟩
  | _, _ => ⟨S2304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x14336 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2304x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2304x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proj.lean ====
abbrev S2304x2048 : Shape := ⟨2, ![2304, 2048]⟩
abbrev S2304x4096 : Shape := ⟨2, ![2304, 4096]⟩
abbrev S2048x4096 : Shape := ⟨2, ![2048, 4096]⟩
abbrev S_ : Shape := ⟨0, ![]⟩
abbrev S4096 : Shape := ⟨1, ![4096]⟩
abbrev S1 : Shape := ⟨1, ![1]⟩
abbrev S1x4096 : Shape := ⟨2, ![1, 4096]⟩
abbrev S256x4096 : Shape := ⟨2, ![256, 4096]⟩
abbrev S256x2048 : Shape := ⟨2, ![256, 2048]⟩
abbrev S9x1024x256 : Shape := ⟨3, ![9, 1024, 256]⟩
abbrev S9x256x256 : Shape := ⟨3, ![9, 256, 256]⟩
abbrev S1024x128 : Shape := ⟨2, ![1024, 128]⟩
abbrev S256x128 : Shape := ⟨2, ![256, 128]⟩
abbrev S256x512 : Shape := ⟨2, ![256, 512]⟩
abbrev S2048x512 : Shape := ⟨2, ![2048, 512]⟩
abbrev S256 : Shape := ⟨1, ![256]⟩
abbrev S256x1 : Shape := ⟨2, ![256, 1]⟩

abbrev nBuf : Space → Nat
  | .hbm => 13
  | .vmem => 15
  | .smem => 3
  | _ => 0

abbrev bufTy : (tb : Table) → Fin (tcTables nBuf tb) → BufTy
  | .hbm, ⟨0, _⟩ => ⟨S2304x2048, .fp8e4m3⟩
  | .hbm, ⟨1, _⟩ => ⟨S2304x4096, .bf16⟩
  | .hbm, ⟨2, _⟩ => ⟨S2048x4096, .fp8e4m3⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1x4096, .f32⟩
  | .hbm, ⟨11, _⟩ => ⟨S2304x4096, .fp8e4m3⟩
  | .hbm, ⟨12, _⟩ => ⟨S2304x4096, .f32⟩
  | .local _ .vmem, ⟨0, _⟩ => ⟨S256x4096, .bf16⟩
  | .local _ .vmem, ⟨1, _⟩ => ⟨S256x4096, .bf16⟩
  | .local _ .vmem, ⟨2, _⟩ => ⟨S2048x4096, .fp8e4m3⟩
  | .local _ .vmem, ⟨3, _⟩ => ⟨S1x4096, .f32⟩
  | .local _ .vmem, ⟨4, _⟩ => ⟨S256x2048, .fp8e4m3⟩
  | .local _ .vmem, ⟨5, _⟩ => ⟨S256x2048, .fp8e4m3⟩
  | .local _ .vmem, ⟨6, _⟩ => ⟨S256x4096, .fp8e4m3⟩
  | .local _ .vmem, ⟨7, _⟩ => ⟨S256x4096, .fp8e4m3⟩
  | .local _ .vmem, ⟨8, _⟩ => ⟨S256x4096, .f32⟩
  | .local _ .vmem, ⟨9, _⟩ => ⟨S256x4096, .f32⟩
  | .local _ .vmem, ⟨10, _⟩ => ⟨S9x1024x256, .f32⟩
  | .local _ .vmem, ⟨11, _⟩ => ⟨S9x256x256, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S2304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjReferenceIdeal.lean ====
abbrev S2304x2048 : Shape := ⟨2, ![2304, 2048]⟩
abbrev S2304x4096 : Shape := ⟨2, ![2304, 4096]⟩
abbrev S2048x4096 : Shape := ⟨2, ![2048, 4096]⟩
abbrev S_ : Shape := ⟨0, ![]⟩
abbrev S4096 : Shape := ⟨1, ![4096]⟩
abbrev S1 : Shape := ⟨1, ![1]⟩
abbrev S1x4096 : Shape := ⟨2, ![1, 4096]⟩
abbrev S2304 : Shape := ⟨1, ![2304]⟩
abbrev S2304x1 : Shape := ⟨2, ![2304, 1]⟩

abbrev nBuf : Space → Nat
  | .hbm => 13
  | .vmem => 6
  | .smem => 3
  | _ => 0

abbrev bufTy : (tb : Table) → Fin (tcTables nBuf tb) → BufTy
  | .hbm, ⟨0, _⟩ => ⟨S2304x2048, .fp8e4m3⟩
  | .hbm, ⟨1, _⟩ => ⟨S2304x4096, .bf16⟩
  | .hbm, ⟨2, _⟩ => ⟨S2048x4096, .fp8e4m3⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1x4096, .f32⟩
  | .hbm, ⟨11, _⟩ => ⟨S2304x4096, .fp8e4m3⟩
  | .hbm, ⟨12, _⟩ => ⟨S2304x4096, .f32⟩
  | .local _ .vmem, ⟨0, _⟩ => ⟨S2304x2048, .fp8e4m3⟩
  | .local _ .vmem, ⟨1, _⟩ => ⟨S2304x4096, .bf16⟩
  | .local _ .vmem, ⟨2, _⟩ => ⟨S2048x4096, .fp8e4m3⟩
  | .local _ .vmem, ⟨3, _⟩ => ⟨S1x4096, .f32⟩
  | .local _ .vmem, ⟨4, _⟩ => ⟨S2304x4096, .fp8e4m3⟩
  | .local _ .vmem, ⟨5, _⟩ => ⟨S2304x4096, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S2304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2304x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Rows.lean ====
/-
  The row functions both sides of the QKV claim are read as, over the extended reals, and their equality.
  Nothing here names a program: a row is a function of its column.
-/
module

public import Idealize.ShloMosaic.Lib.Pointwise
public import Idealize.ShloMosaic.Lib.IdealHost

@[expose] public section

noncomputable section

namespace Cert.Rows

open Idealize.ShloMosaic

/-- The clamp to the fp8 range, `[-448, 448]`. -/
def clip (v : EReal) : EReal := min (Ideal.ofBits .f32 0x43E00000#32) (max (Ideal.ofBits .f32 0xC3E00000#32) v)

/-- The small constant under the root of the RMS norm. -/
def eps : EReal := Ideal.ofBits .f32 0x3727C5AC#32

/-- The sum of a row's squares. -/
def ssq {n : Nat} (x : Fin n → EReal) : EReal := ∑ k, x k * x k

/-- The normalised and quantised row, as the reference writes it: `x / sqrt(mean + eps) * w / s`, clamped. -/
def x1Ref (x w : Fin 4096 → EReal) (s : EReal) (k : Fin 4096) : EReal :=
  clip (Ideal.div (Ideal.div (x k) (Ideal.sqrt (Ideal.div (ssq x) (Ideal.ofBits .f32 0x45800000#32) + eps)) * w k) s)

/-- The same row as the kernel computes it: reciprocals taken once and multiplied in. -/
def x1Ker (x w : Fin 4096 → EReal) (s : EReal) (k : Fin 4096) : EReal :=
  clip (x k * Ideal.div 1 (Ideal.sqrt (ssq x * Ideal.ofBits .f32 0x39800000#32 + eps)) * (w k * Ideal.div 1 s))

/-- The column of a head's other half: 64 columns away, cyclically. -/
def other (j : Fin 128) : Fin 128 := ⟨(j.val + 64) % 128, Nat.mod_lt _ (by decide)⟩

/-- The column of the rotation tables a head's column uses. -/
def lane (j : Fin 128) : Fin 64 := ⟨j.val % 64, Nat.mod_lt _ (by decide)⟩

theorem lane_of_lt {j : Fin 128} (h : j.val < 64) : lane j = ⟨j.val, h⟩ := Fin.ext (Nat.mod_eq_of_lt h)

theorem lane_of_ge {j : Fin 128} (h : ¬ j.val < 64) : lane j = ⟨j.val - 64, by omega⟩ :=
  Fin.ext (by show j.val % 64 = j.val - 64; omega)

/-- A head's row rotated as the reference writes it: the two halves scaled by both scales, turned, divided by the
    static scale and clamped. -/
def ropeRef (t : Fin 128 → EReal) (c s : Fin 64 → EReal) (f g q : EReal) (j : Fin 128) : EReal :=
  clip (Ideal.div (if j.val < 64
    then t j * f * g * c (lane j) - t (other j) * f * g * s (lane j)
    else t j * f * g * c (lane j) + t (other j) * f * g * s (lane j)) q)

/-- The same row as the kernel computes it: the raw product turned, the sine's sign in its table, one factor after. -/
def ropeKer (t : Fin 128 → EReal) (c s : Fin 64 → EReal) (f g q : EReal) (j : Fin 128) : EReal :=
  clip ((t j * c (lane j) + t (other j) * (if j.val < 64 then 0 - s (lane j) else s (lane j))) * Ideal.div (f * g) q)

/-- The plain scaled and quantised value, as the reference writes it. -/
def scaleRef (t f g q : EReal) : EReal := clip (Ideal.div (t * f * g) q)

/-- The same value as the kernel computes it. -/
def scaleKer (t f g q : EReal) : EReal := clip (t * Ideal.div (f * g) q)

theorem ofBits_4096 : Ideal.ofBits .f32 0x45800000#32 = ((4096 : ℝ) : EReal) := by
  simp [Ideal.ofBits, Ideal.ieee, -EReal.coe_mul]; norm_num

theorem ofBits_inv4096 : Ideal.ofBits .f32 0x39800000#32 = (((4096 : ℝ)⁻¹ : ℝ) : EReal) := by
  simp [Ideal.ofBits, Ideal.ieee, -EReal.coe_mul]; norm_num

theorem eps_pos : 0 < eps := by
  unfold eps
  simp [Ideal.ofBits, Ideal.ieee, -EReal.coe_mul]

/-- Away from a zero divisor the division is multiplication by the inverse. -/
theorem div_eq {x y : EReal} (h : y ≠ 0) : Ideal.div x y = x * y⁻¹ := by simp [Ideal.div, h]

theorem mul_self_nonneg' (x : EReal) : 0 ≤ x * x := by
  induction x with
  | bot => simp
  | top => simp
  | coe r => exact_mod_cast mul_self_nonneg r

theorem ssq_nonneg {n : Nat} (x : Fin n → EReal) : 0 ≤ ssq x := Finset.sum_nonneg fun k _ => mul_self_nonneg' (x k)

/-- The root of a positive extended real is not zero. -/
theorem sqrt_ne_zero {v : EReal} (h : 0 < v) : Ideal.sqrt v ≠ 0 := by
  induction v with
  | bot => simp at h
  | top => exact EReal.top_ne_zero
  | coe r =>
    have hr : 0 < r := by exact_mod_cast h
    have e : Ideal.sqrt (r : EReal) = ((Real.sqrt r : ℝ) : EReal) := if_neg (not_lt.mpr hr.le)
    rw [e]
    exact_mod_cast (Real.sqrt_pos.mpr hr).ne'

theorem x1_eq (x w : Fin 4096 → EReal) {s : EReal} (hs : s ≠ 0) : x1Ker x w s = x1Ref x w s := by
  funext k
  have e : ssq x * Ideal.ofBits .f32 0x39800000#32 = Ideal.div (ssq x) (Ideal.ofBits .f32 0x45800000#32) := by
    rw [ofBits_inv4096, ofBits_4096, div_eq (by norm_num)]; rfl
  have hv : 0 < Ideal.div (ssq x) (Ideal.ofBits .f32 0x45800000#32) + eps := by
    rw [← e, ofBits_inv4096]
    refine lt_of_lt_of_le eps_pos (le_add_of_nonneg_left (mul_nonneg (ssq_nonneg x) ?_))
    exact_mod_cast (by norm_num : (0 : ℝ) ≤ 4096⁻¹)
  unfold x1Ker x1Ref
  rw [e]
  have h0 := sqrt_ne_zero hv
  generalize Ideal.sqrt (Ideal.div (ssq x) (Ideal.ofBits .f32 0x45800000#32) + eps) = r at h0 ⊢
  rw [div_eq h0, div_eq h0, div_eq hs, div_eq hs, one_mul, one_mul, mul_assoc (x k * r⁻¹)]

/-- Multiplying a sum by a nonnegative finite factor distributes. -/
theorem add_mul_real {g : EReal} (h0 : 0 ≤ g) (ht : g ≠ ⊤) (a b : EReal) : (a + b) * g = a * g + b * g := by
  rw [mul_comm, EReal.left_distrib_of_nonneg_of_ne_top h0 ht, mul_comm a, mul_comm b]

theorem rope_eq (t : Fin 128 → EReal) (c s : Fin 64 → EReal) {f g q : EReal} (h0 : 0 ≤ f * g) (ht : f * g ≠ ⊤)
    (hq : q ≠ 0) (j : Fin 128) : ropeKer t c s f g q j = ropeRef t c s f g q j := by
  unfold ropeKer ropeRef
  congr 1
  rw [div_eq hq, div_eq hq, ← mul_assoc, add_mul_real h0 ht]
  have e1 : ∀ a b : EReal, a * b * (f * g) = a * f * g * b := fun a b => by
    rw [mul_assoc a f g, mul_assoc a b, mul_comm b, ← mul_assoc]
  split
  · rw [e1, e1, zero_sub, mul_neg, sub_eq_add_neg]
  · rw [e1, e1]

theorem scale_eq (t : EReal) {f g q : EReal} (hq : q ≠ 0) : scaleKer t f g q = scaleRef t f g q := by
  unfold scaleKer scaleRef
  rw [div_eq hq, div_eq hq, ← mul_assoc, mul_assoc t f g]

/-! ## The four results as functions of the arguments -/

/-- The arguments of the QKV call, read at coordinates. -/
structure Ins where
  x : Fin 2304 → Fin 4096 → EReal
  c : Fin 2304 → Fin 64 → EReal
  s : Fin 2304 → Fin 64 → EReal
  w : Fin 4096 → EReal
  sx : EReal
  W : Fin 4096 → Fin 3072 → EReal
  ws : Fin 3 → EReal
  sq : EReal
  sk : EReal
  sv : EReal

namespace Ins

variable (I : Ins)

/-- One row of normalised codes against one column of the packed weights. -/
def dot (x1 : Fin 4096 → EReal) (j : Fin 3072) : EReal := ∑ k, x1 k * I.W k j

/-- The packed column of a query column's head, at a column of the head. -/
def qcol (j : Fin 2048) (l : Fin 128) : Fin 3072 := ⟨j.val / 128 * 128 + l.val, by omega⟩

/-- The packed column of a key column's head, at a column of the head. -/
def kcol (j : Fin 512) (l : Fin 128) : Fin 3072 := ⟨2048 + j.val / 128 * 128 + l.val, by omega⟩

/-- The packed column of a value column. -/
def vcol (j : Fin 512) : Fin 3072 := ⟨2560 + j.val, by omega⟩

/-- A column's place in its head. -/
def inHead {n : Nat} (j : Fin n) : Fin 128 := ⟨j.val % 128, Nat.mod_lt _ (by decide)⟩

def kX1 (R : Fin 2304) : Fin 4096 → EReal := x1Ker (I.x R) I.w I.sx
def kQ (R : Fin 2304) (j : Fin 2048) : EReal :=
  ropeKer (fun l => I.dot (I.kX1 R) (qcol j l)) (I.c R) (I.s R) I.sx (I.ws 0) I.sq (inHead j)
def kK (R : Fin 2304) (j : Fin 512) : EReal :=
  ropeKer (fun l => I.dot (I.kX1 R) (kcol j l)) (I.c R) (I.s R) I.sx (I.ws 1) I.sk (inHead j)
def kV (R : Fin 2304) (j : Fin 512) : EReal := scaleKer (I.dot (I.kX1 R) (vcol j)) I.sx (I.ws 2) I.sv

def rX1 (R : Fin 2304) : Fin 4096 → EReal := x1Ref (I.x R) I.w I.sx
def rQ (R : Fin 2304) (j : Fin 2048) : EReal :=
  ropeRef (fun l => I.dot (I.rX1 R) (qcol j l)) (I.c R) (I.s R) I.sx (I.ws 0) I.sq (inHead j)
def rK (R : Fin 2304) (j : Fin 512) : EReal :=
  ropeRef (fun l => I.dot (I.rX1 R) (kcol j l)) (I.c R) (I.s R) I.sx (I.ws 1) I.sk (inHead j)
def rV (R : Fin 2304) (j : Fin 512) : EReal := scaleRef (I.dot (I.rX1 R) (vcol j)) I.sx (I.ws 2) I.sv

/-- What the precondition says of the scales. -/
structure Ok : Prop where
  sx : 0 < I.sx ∧ I.sx < ⊤
  w0 : 0 ≤ I.ws 0 ∧ I.ws 0 < ⊤
  w1 : 0 ≤ I.ws 1 ∧ I.ws 1 < ⊤
  sq : I.sq ≠ 0
  sk : I.sk ≠ 0
  sv : I.sv ≠ 0

theorem mul_finite {a b : EReal} (ha : 0 < a ∧ a < ⊤) (hb : 0 ≤ b ∧ b < ⊤) : 0 ≤ a * b ∧ a * b ≠ ⊤ := by
  obtain ⟨r, rfl⟩ : ∃ r : ℝ, a = r := ⟨a.toReal, (EReal.coe_toReal ha.2.ne (ha.1.trans_le' bot_le).ne').symm⟩
  obtain ⟨q, rfl⟩ : ∃ q : ℝ, b = q :=
    ⟨b.toReal, (EReal.coe_toReal hb.2.ne (lt_of_lt_of_le EReal.bot_lt_zero hb.1).ne').symm⟩
  rw [← EReal.coe_mul]
  exact ⟨by exact_mod_cast mul_nonneg (by exact_mod_cast ha.1.le) (by exact_mod_cast hb.1), EReal.coe_ne_top _⟩

variable {I}

theorem x1_same (h : I.Ok) (R : Fin 2304) : I.kX1 R = I.rX1 R := x1_eq _ _ h.sx.1.ne'

theorem q_same (h : I.Ok) (R : Fin 2304) (j : Fin 2048) : I.kQ R j = I.rQ R j := by
  unfold kQ rQ
  rw [x1_same h, rope_eq _ _ _ (mul_finite h.sx h.w0).1 (mul_finite h.sx h.w0).2 h.sq]

theorem k_same (h : I.Ok) (R : Fin 2304) (j : Fin 512) : I.kK R j = I.rK R j := by
  unfold kK rK
  rw [x1_same h, rope_eq _ _ _ (mul_finite h.sx h.w1).1 (mul_finite h.sx h.w1).2 h.sk]

theorem v_same (h : I.Ok) (R : Fin 2304) (j : Fin 512) : I.kV R j = I.rV R j := by
  unfold kV rV
  rw [x1_same h, scale_eq _ h.sv]

end Ins

end Cert.Rows

end
-- ==== Proof.KPay.lean ====
/-
  The kernel body's values read at an index, over the extended reals: the normalised codes, the packed product, and
  one rotated head as a piece of what the body stores.
-/
module

public import proofs.«01_k».proof.Proof.Gen.KernelIdeal.Skeleton
public import proofs.«01_k».proof.Proof.Rows

@[expose] public section

set_option maxRecDepth 16384

noncomputable section

namespace Cert.KPay

open Cert.KernelIdeal Cert.KernelIdeal.Gen Cert.Rows Idealize.ShloMosaic

/-- The stored normalised block, at an index. -/
theorem pay3_apply (v0 : Vec Ideal S256x4096 .bf16) (v12 : Vec Ideal S1x4096 .f32) (v14 : Elt Ideal .f32) (r : Fin 256)
    (k : Fin 4096) :
    k0_pay3 v0 v12 v14 (ix2 r k) = x1Ker (fun k => v0 (ix2 r k)) (fun k => v12 (ix2 0 k)) v14 k := by
  pointwise [k0_pay3]
  rfl

theorem pay10_apply (v49 : Vec Ideal S256x4096 .fp8e4m3) (r : Fin 256) (k : Fin 4096) :
    k0_pay10 v49 (ix2 r k) = v49 (ix2 r k) := by
  pointwise [k0_pay10]

theorem pay11_apply (v49 : Vec Ideal S256x4096 .fp8e4m3) (v51 : Vec Ideal S4096x512 .fp8e4m3) (r : Fin 256)
    (k : Fin 512) :
    k0_pay11 v49 v51 (ix2 r k) = ∑ i : Fin 4096, v49 (ix2 r i) * v51 (ix2 i k) := by
  pointwise [k0_pay11, k0_pay10]

theorem pay18_apply (v49 : Vec Ideal S256x4096 .fp8e4m3) (v51 : Vec Ideal S4096x512 .fp8e4m3) (r : Fin 256)
    (k : Fin 512) :
    k0_pay18 v49 v51 (ix2 r k) = ∑ i : Fin 4096, v49 (ix2 r i) * v51 (ix2 i k) := by
  pointwise [k0_pay18]

theorem pay4_apply (v : Vec Ideal S256x64 .f32) (r : Fin 256) (j : Fin 128) :
    k0_pay4 v (ix2 r j) = v (ix2 r (lane j)) := by
  pointwise [k0_pay4]
  split
  · next h => rw [lane_of_lt h]
  · next h => rw [lane_of_ge h]

theorem pay5_apply (v : Vec Ideal S256x64 .f32) (r : Fin 256) (j : Fin 128) :
    k0_pay5 v (ix2 r j) = if j.val < 64 then 0 - v (ix2 r (lane j)) else v (ix2 r (lane j)) := by
  pointwise [k0_pay5]
  split
  · next h => rw [lane_of_lt h]
  · next h => rw [lane_of_ge h]

/-- A value block's store, at an index: the product scaled and clamped. -/
theorem pay2_apply (v48 : Ideal .f32) (v50 : FVec Ideal S256x4096 .fp8e4m3) (v321 : Vec Ideal S4096x512 .fp8e4m3)
    (r : Fin 256) (k : Fin 512) :
    k0_pay2 v48 v50 v321 (ix2 r k) = clip ((k0_pay18 v50 v321 (ix2 r k) : EReal) * v48) := by
  rw [pay18_apply]
  pointwise [k0_pay2]
  rfl

/-- One head's store as the body spells it, over the product block `acc`. -/
def headPay {off : Fin 2 → Nat} (h : S256x512.Slices off S256x128)
    (c2 s2 : FVec Ideal S256x128 .f32) (f : Ideal .f32) (acc : FVec Ideal S256x512 .f32) :
    FVec Ideal S256x128 .fp8e4m3 :=
  let t := extractStridedSlice S256x128 off acc h
  truncf .fp8e4m3 (minimumf (broadcast S256x128 (Scalar.ofBits .f32 0x43E00000#32))
    (maximumf (broadcast S256x128 (Scalar.ofBits .f32 0xC3E00000#32))
      (mulf (addf (mulf t c2) (mulf (dynamicRotate 1 64#32 none t rotates_S256x128_d1) s2)) (broadcast S256x128 f)))) bitsLt_fp8e4m3_f32

theorem headPay_apply {o : Nat} (ho : o + 128 ≤ 512) (h : S256x512.Slices ![0, o] S256x128)
    (c2 s2 : FVec Ideal S256x128 .f32) (f : Ideal .f32) (acc : FVec Ideal S256x512 .f32) (r : Fin 256) (j : Fin 128) :
    headPay h c2 s2 f acc (ix2 r j)
      = clip ((acc (ix2 r ⟨o + j.val, by omega⟩) * c2 (ix2 r j)
          + acc (ix2 r ⟨o + (other j).val, by have := (other j).isLt; omega⟩) * s2 (ix2 r j)) * f) := by
  have e : (j.val + 128 - 64) % 128 = (other j).val := by show _ = (j.val + 64) % 128; omega
  pointwise [headPay]
  simp only [e]
  rfl

/-- With the body's tables and factor: the head's row, rotated as the kernel does it. -/
theorem headPay_rope {o : Nat} (ho : o + 128 ≤ 512) (h : S256x512.Slices ![0, o] S256x128)
    (c s : Vec Ideal S256x64 .f32) (f g q : EReal) (acc : FVec Ideal S256x512 .f32) (r : Fin 256) (j : Fin 128) :
    headPay h (k0_pay4 c) (k0_pay5 s) (Ideal.div (f * g) q) acc (ix2 r j)
      = ropeKer (fun j => acc (ix2 r ⟨o + j.val, by omega⟩)) (fun l => c (ix2 r l)) (fun l => s (ix2 r l)) f g q j := by
  rw [headPay_apply ho, pay4_apply, pay5_apply]
  rfl

end Cert.KPay

end
-- ==== Proof.KBlock.lean ====
/-
  The QKV call's blocks: what each grid point reads, and the array of normalised codes.
-/
module

public import proofs.«01_k».proof.Proof.Gen.KernelIdeal.Value
public import proofs.«01_k».proof.Proof.KPay
public import Idealize.ShloMosaic.Lib.Pipeline.ValueKit

@[expose] public section

set_option maxRecDepth 16384

noncomputable section

namespace Cert.KBlock

open Cert.KernelIdeal Cert.KernelIdeal.Gen Cert.Rows Cert.KPay Idealize.ShloMosaic Idealize.ShloMosaic.TcCoe Idealize.SL.Sem
open Idealize.ShloMosaic.Pipeline (Dat)

variable (m : (ℓ : Loc nD τ sig) → Buf (Elt Ideal) ℓ)

/-- The arguments as the launch finds them. -/
def ins (c : Dev nD) : Ins where
  x R k := m ((c : Thread nD τ).loc main_arg0) (ix2 R k)
  c R k := m ((c : Thread nD τ).loc main_arg1) (ix2 R k)
  s R k := m ((c : Thread nD τ).loc main_arg2) (ix2 R k)
  w k := m ((c : Thread nD τ).loc main_arg3) (ix1 k)
  sx := m ((c : Thread nD τ).loc main_arg4) ix0
  W k j := m ((c : Thread nD τ).loc main_arg5) (ix2 k j)
  ws j := m ((c : Thread nD τ).loc main_arg6) (ix1 j)
  sq := m ((c : Thread nD τ).loc main_arg7) ix0
  sk := m ((c : Thread nD τ).loc main_arg8) ix0
  sv := m ((c : Thread nD τ).loc main_arg9) ix0

theorem idx_facts : ∀ t : Fin cfg0.N, win0_5.index t = ![t.val, 0] ∧ win0_6.index t = ![0, 0] ∧ win0_7.index t = ![0, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

theorem idx_scal : ∀ t : Fin cfg0.N, win0_0.index t = ![0] ∧ win0_1.index t = ![0] ∧ win0_2.index t = ![0]
    ∧ win0_3.index t = ![0] ∧ win0_4.index t = ![0] :=
  (by decide +kernel : ∀ t : Fin grid0.N, _)

/-- The array row of a block's row. -/
def row (t : Fin cfg0.N) (r : Fin 256) : Fin 2304 :=
  ⟨256 * t.val + r.val, by have h : t.val < 9 := lt_of_lt_of_eq t.isLt N_0; omega⟩

theorem blk5 (c : Dev nD) (t : Fin cfg0.N) (r : Fin 256) (k : Fin 4096) :
    iblk m c 5 t (ix2 r k) = (ins m c).x (row t r) k := by
  show _ = m ((c : Thread nD τ).loc main_arg0) (ix2 (row t r) k)
  unfold row
  blk_ext [iblk, V_main_arg0, idx_facts t]

theorem blk8 (c : Dev nD) (t : Fin cfg0.N) (r : Fin 256) (k : Fin 64) :
    iblk m c 8 t (ix2 r k) = (ins m c).c (row t r) k := by
  show _ = m ((c : Thread nD τ).loc main_arg1) (ix2 (row t r) k)
  unfold row
  blk_ext [iblk, V_main_arg1, idx_facts t]

theorem blk9 (c : Dev nD) (t : Fin cfg0.N) (r : Fin 256) (k : Fin 64) :
    iblk m c 9 t (ix2 r k) = (ins m c).s (row t r) k := by
  show _ = m ((c : Thread nD τ).loc main_arg2) (ix2 (row t r) k)
  unfold row
  blk_ext [iblk, V_main_arg2, idx_facts t]

theorem blk6 (c : Dev nD) (t : Fin cfg0.N) (r : Fin 4096) (k : Fin 3072) :
    iblk m c 6 t (ix2 r k) = (ins m c).W r k := by
  show _ = m ((c : Thread nD τ).loc main_arg5) (ix2 r k)
  blk_ext [iblk, V_main_arg5, idx_facts t]

theorem blk7 (c : Dev nD) (t : Fin cfg0.N) (k : Fin 4096) :
    iblk m c 7 t (ix2 0 k) = (ins m c).w k := by
  show _ = m ((c : Thread nD τ).loc main_arg3) (ix1 k)
  blk_point [iblk, V, idx_facts t]

theorem ld0 (c : Dev nD) (t : Fin cfg0.N) (h) :
    View.ld (iblk m c 0 t) (Rect.unit ![0] ![1] inb_S1_S1_0) (Shape.Idx.first h) = (ins m c).sx := by
  show _ = m ((c : Thread nD τ).loc main_arg4) ix0
  rw [View.ld_apply]
  blk_point [iblk, V, idx_scal t]

theorem ld1 (c : Dev nD) (t : Fin cfg0.N) (i : Fin 3) (hi) (h) :
    View.ld (iblk m c 1 t) (Rect.unit ![i.val] ![1] hi) (Shape.Idx.first h) = (ins m c).ws i := by
  show _ = m ((c : Thread nD τ).loc main_arg6) (ix1 i)
  rw [View.ld_apply]
  blk_point [iblk, V, idx_scal t]
  rfl

theorem ld2 (c : Dev nD) (t : Fin cfg0.N) (h) :
    View.ld (iblk m c 2 t) (Rect.unit ![0] ![1] inb_S1_S1_0) (Shape.Idx.first h) = (ins m c).sq := by
  show _ = m ((c : Thread nD τ).loc main_arg7) ix0
  rw [View.ld_apply]
  blk_point [iblk, V, idx_scal t]

theorem ld3 (c : Dev nD) (t : Fin cfg0.N) (h) :
    View.ld (iblk m c 3 t) (Rect.unit ![0] ![1] inb_S1_S1_0) (Shape.Idx.first h) = (ins m c).sk := by
  show _ = m ((c : Thread nD τ).loc main_arg8) ix0
  rw [View.ld_apply]
  blk_point [iblk, V, idx_scal t]

theorem ld4 (c : Dev nD) (t : Fin cfg0.N) (h) :
    View.ld (iblk m c 4 t) (Rect.unit ![0] ![1] inb_S1_S1_0) (Shape.Idx.first h) = (ins m c).sv := by
  show _ = m ((c : Thread nD τ).loc main_arg9) ix0
  rw [View.ld_apply]
  blk_point [iblk, V, idx_scal t]

/-- The block of normalised codes a point stores, at an index. -/
theorem x1_block (c : Dev nD) (t : Fin cfg0.N) (h) (r : Fin 256) (k : Fin 4096) :
    k0_pay3 (iblk m c 5 t) (iblk m c 7 t) (View.ld (iblk m c 0 t) (Rect.unit ![0] ![1] inb_S1_S1_0) (Shape.Idx.first h))
      (ix2 r k) = (ins m c).kX1 (row t r) k := by
  rw [pay3_apply, ld0]
  simp only [blk5, blk7]
  rfl

/-- A product of the block of codes with 512 packed columns from `B`, at an index. -/
theorem dot_block (c : Dev nD) (t : Fin cfg0.N) (h) {B : Nat} (hB : B + 512 ≤ 3072) (hi) (r : Fin 256) (k : Fin 512) :
    k0_pay18 (k0_pay10 (k0_pay3 (iblk m c 5 t) (iblk m c 7 t)
        (View.ld (iblk m c 0 t) (Rect.unit ![0] ![1] inb_S1_S1_0) (Shape.Idx.first h))))
      (View.ld (iblk m c 6 t) (Rect.unit ![0, B] ![4096, 512] hi)) (ix2 r k)
      = (ins m c).dot ((ins m c).kX1 (row t r)) ⟨B + k.val, by omega⟩ := by
  rw [pay18_apply]
  refine Finset.sum_congr rfl fun i _ => ?_
  rw [pay10_apply, x1_block]
  congr 1
  rw [View.ld_apply, ← blk6 m c t]
  congr 1
  blk_ext
  · rw [Rect.idx_unit_val]; exact Nat.zero_add _
  · rw [Rect.idx_unit_val]; rfl

/-- One head of a rotated result, at an index of its piece. -/
theorem head_block (c : Dev nD) (t : Fin cfg0.N) (h) {B o : Nat} (hB : B + 512 ≤ 3072) (hi) (ho : o + 128 ≤ 512)
    (hs : S256x512.Slices ![0, o] S256x128) (g q : EReal) (x : S256x128.Idx) :
    headPay hs (k0_pay4 (iblk m c 8 t)) (k0_pay5 (iblk m c 9 t)) (Ideal.div ((ins m c).sx * g) q)
      (k0_pay18 (k0_pay10 (k0_pay3 (iblk m c 5 t) (iblk m c 7 t)
        (View.ld (iblk m c 0 t) (Rect.unit ![0] ![1] inb_S1_S1_0) (Shape.Idx.first h))))
      (View.ld (iblk m c 6 t) (Rect.unit ![0, B] ![4096, 512] hi))) x
      = ropeKer (fun l => (ins m c).dot ((ins m c).kX1 (row t (x 0))) ⟨B + (o + l.val), by omega⟩)
          ((ins m c).c (row t (x 0))) ((ins m c).s (row t (x 0))) (ins m c).sx g q (x 1) := by
  obtain ⟨r, j, rfl⟩ : ∃ (r : Fin 256) (j : Fin 128), x = ix2 r j := ⟨x 0, x 1, by blk_ext⟩
  rw [headPay_rope ho]
  simp only [dot_block m c t h hB, blk8, blk9]
  rfl

end Cert.KBlock

end
-- ==== Proof.KvValue.lean ====
/-
  What the QKV call leaves in its key and value results.
-/
module

public import proofs.«01_k».proof.Proof.Gen.KernelIdeal.Value
public import proofs.«01_k».proof.Proof.KBlock
public import Idealize.ShloMosaic.Lib.Pipeline.ValueKit

@[expose] public section

set_option maxRecDepth 16384

noncomputable section

namespace Cert.KBlock

open Cert.KernelIdeal Cert.KernelIdeal.Gen Cert.Rows Cert.KPay Idealize.ShloMosaic Idealize.ShloMosaic.TcCoe Idealize.SL.Sem
open Idealize.ShloMosaic.Pipeline (Dat)

variable (m : (ℓ : Loc nD τ sig) → Buf (Elt Ideal) ℓ)

/-- After the run the first result holds the normalised codes. -/
theorem arr10 (c : Dev nD) : (dats m 0 c).arrAt 10 cfg0.N = fun i => (ins m c).kX1 (i 0) (i 1) := by
  refine (dats m 0 c).arrAt_eq_of_covers 10 _ (by decide +kernel) fun t hf y => ?_
  blk_simp
  rw [after0_10]
  simp only [outsAt0]
  frame_out
  obtain ⟨r, k, rfl⟩ : ∃ (r : Fin 256) (k : Fin 4096), y = ix2 r k := ⟨y 0, y 1, by blk_ext⟩
  have e : ((View.whole main_v5_0).slice (win0_10.rect t)).emb (ix2 r k) = ix2 (row t r) k := by
    unfold row; blk_ext [idx_facts t]
  rw [e]
  exact x1_block m c t _ r k

/-- The factor of the k columns, from the scalar operands. -/
theorem factor_k (c : Dev nD) (t : Fin cfg0.N) (h h' h'') :
    k0_pay8 (F := Ideal) (View.ld (iblk m c 0 t) (Rect.unit ![0] ![1] inb_S1_S1_0) (Shape.Idx.first h))
      (View.ld (iblk m c 1 t) (Rect.unit ![1] ![1] inb_S3_S1_1) (Shape.Idx.first h'))
      (View.ld (iblk m c 3 t) (Rect.unit ![0] ![1] inb_S1_S1_0) (Shape.Idx.first h''))
      = Ideal.div ((ins m c).sx * (ins m c).ws 1) (ins m c).sk := by
  rw [← ld0 m c t h, ← ld3 m c t h'', ← ld1 m c t 1 inb_S3_S1_1 h']
  rfl

/-- A store of one k head, at an index of its piece, is the k row at the column the piece puts it at. -/
theorem k_piece (c : Dev nD) (t : Fin cfg0.N) (h hi) {o : Nat}  (ho : o + 128 ≤ 512)
    (hs : S256x512.Slices ![0, o] S256x128) (hd : o % 128 = 0) (f : EReal)
    (hf : f = Ideal.div ((ins m c).sx * (ins m c).ws 1) (ins m c).sk) (x : S256x128.Idx) (r : Fin 256) (k : Fin 512)
    (hr : r.val = (x 0).val) (hk : k.val = o + (x 1).val) :
    headPay hs (k0_pay4 (iblk m c 8 t)) (k0_pay5 (iblk m c 9 t)) f
      (k0_pay18 (k0_pay10 (k0_pay3 (iblk m c 5 t) (iblk m c 7 t)
        (View.ld (iblk m c 0 t) (Rect.unit ![0] ![1] inb_S1_S1_0) (Shape.Idx.first h))))
      (View.ld (iblk m c 6 t) (Rect.unit ![0, 2048] ![4096, 512] hi))) x
      = (ins m c).kK (row t r) k := by
  have hx : (x 1).val < 128 := (x 1).isLt
  obtain rfl : x 0 = r := Fin.ext hr.symm
  rw [hf, head_block m c t h (by omega) hi ho hs, Ins.kK]
  have e1 : Ins.inHead k = x 1 := Fin.ext (by show k.val % 128 = (x 1).val; omega)
  have e2 : ∀ l : Fin 128, Ins.kcol k l = ⟨2048 + (o + l.val), by omega⟩ := fun l =>
    Fin.ext (by simp only [Ins.kcol]; omega)
  simp only [e1, e2]

/-- After the run the third result holds the rotated key codes. -/
theorem arr12 (c : Dev nD) : (dats m 0 c).arrAt 12 cfg0.N = fun i => (ins m c).kK (i 0) (i 1) := by
  refine (dats m 0 c).arrAt_eq_of_covers 12 _ (by decide +kernel) fun t hf y => ?_
  blk_simp
  rw [after0_12]
  simp only [outsAt0]
  frame_out
  obtain ⟨r, k, rfl⟩ : ∃ (r : Fin 256) (k : Fin 512), y = ix2 r k := ⟨y 0, y 1, by blk_ext⟩
  have e : ((View.whole main_v5_2).slice (win0_12.rect t)).emb (ix2 r k) = ix2 (row t r) k := by
    unfold row; blk_ext [idx_facts t]
  rw [e]
  canon_tiles x h
  · exact k_piece m c t _ _ (o := 384) (by omega) slices_S256x512_o0_384_S256x128 (by omega) _ (factor_k m c t _ _ _) x r k h0 h1
  · exact k_piece m c t _ _ (o := 256) (by omega) slices_S256x512_o0_256_S256x128 (by omega) _ (factor_k m c t _ _ _) x r k h0 h1
  · exact k_piece m c t _ _ (o := 128) (by omega) slices_S256x512_o0_128_S256x128 (by omega) _ (factor_k m c t _ _ _) x r k h0 h1
  · exact k_piece m c t _ _ (o := 0) (by omega) slices_S256x512_o0_0_S256x128 (by omega) _ (factor_k m c t _ _ _) x r k h0 (h1.trans (Nat.zero_add _).symm)

/-- The factor of the v columns, from the scalar operands. -/
theorem factor_v (c : Dev nD) (t : Fin cfg0.N) (h h' h'') :
    k0_pay9 (F := Ideal) (View.ld (iblk m c 0 t) (Rect.unit ![0] ![1] inb_S1_S1_0) (Shape.Idx.first h))
      (View.ld (iblk m c 1 t) (Rect.unit ![2] ![1] inb_S3_S1_2) (Shape.Idx.first h'))
      (View.ld (iblk m c 4 t) (Rect.unit ![0] ![1] inb_S1_S1_0) (Shape.Idx.first h''))
      = Ideal.div ((ins m c).sx * (ins m c).ws 2) (ins m c).sv := by
  rw [← ld0 m c t h, ← ld4 m c t h'', ← ld1 m c t 2 inb_S3_S1_2 h']
  rfl

/-- After the run the fourth result holds the value codes. -/
theorem arr13 (c : Dev nD) : (dats m 0 c).arrAt 13 cfg0.N = fun i => (ins m c).kV (i 0) (i 1) := by
  refine (dats m 0 c).arrAt_eq_of_covers 13 _ (by decide +kernel) fun t hf y => ?_
  blk_simp
  rw [after0_13]
  simp only [outsAt0]
  frame_out
  obtain ⟨r, k, rfl⟩ : ∃ (r : Fin 256) (k : Fin 512), y = ix2 r k := ⟨y 0, y 1, by blk_ext⟩
  have e : ((View.whole main_v5_3).slice (win0_13.rect t)).emb (ix2 r k) = ix2 (row t r) k := by
    unfold row; blk_ext [idx_facts t]
  rw [e]
  rw [factor_v]
  refine (pay2_apply _ _ _ r k).trans ?_
  rw [dot_block m c t _ (B := 2560) (by omega)]
  rfl

end Cert.KBlock

end
-- ==== Proof.QValue.lean ====
/-
  What the QKV call leaves in its query result.
-/
module

public import proofs.«01_k».proof.Proof.Gen.KernelIdeal.Value
public import proofs.«01_k».proof.Proof.KBlock
public import Idealize.ShloMosaic.Lib.Pipeline.ValueKit

@[expose] public section

set_option maxRecDepth 16384

noncomputable section

namespace Cert.KBlock

open Cert.KernelIdeal Cert.KernelIdeal.Gen Cert.Rows Cert.KPay Idealize.ShloMosaic Idealize.ShloMosaic.TcCoe Idealize.SL.Sem
open Idealize.ShloMosaic.Pipeline (Dat)

variable (m : (ℓ : Loc nD τ sig) → Buf (Elt Ideal) ℓ)

/-- The factor of the q columns, from the scalar operands. -/
theorem factor_q (c : Dev nD) (t : Fin cfg0.N) (h h' h'') :
    k0_pay7 (F := Ideal) (k0_pay6 (View.ld (iblk m c 0 t) (Rect.unit ![0] ![1] inb_S1_S1_0) (Shape.Idx.first h))
      (View.ld (iblk m c 1 t) (Rect.unit ![0] ![1] inb_S3_S1_0) (Shape.Idx.first h')))
      (View.ld (iblk m c 2 t) (Rect.unit ![0] ![1] inb_S1_S1_0) (Shape.Idx.first h''))
      = Ideal.div ((ins m c).sx * (ins m c).ws 0) (ins m c).sq := by
  rw [← ld0 m c t h, ← ld2 m c t h'', ← ld1 m c t 0 inb_S3_S1_0 h']
  rfl

/-- A store of one q head, at an index of its piece, is the q row at the column the piece puts it at. -/
theorem q_piece (c : Dev nD) (t : Fin cfg0.N) (h) {B o : Nat} (hB : B + 512 ≤ 2048) (hi) (ho : o + 128 ≤ 512)
    (hs : S256x512.Slices ![0, o] S256x128) (hd : (B + o) % 128 = 0) (f : EReal)
    (hf : f = Ideal.div ((ins m c).sx * (ins m c).ws 0) (ins m c).sq) (x : S256x128.Idx) (r : Fin 256) (k : Fin 2048)
    (hr : r.val = (x 0).val) (hk : k.val = B + o + (x 1).val) :
    headPay hs (k0_pay4 (iblk m c 8 t)) (k0_pay5 (iblk m c 9 t)) f
      (k0_pay18 (k0_pay10 (k0_pay3 (iblk m c 5 t) (iblk m c 7 t)
        (View.ld (iblk m c 0 t) (Rect.unit ![0] ![1] inb_S1_S1_0) (Shape.Idx.first h))))
      (View.ld (iblk m c 6 t) (Rect.unit ![0, B] ![4096, 512] hi))) x
      = (ins m c).kQ (row t r) k := by
  have hx : (x 1).val < 128 := (x 1).isLt
  obtain rfl : x 0 = r := Fin.ext hr.symm
  rw [hf, head_block m c t h (by omega) hi ho hs, Ins.kQ]
  have e1 : Ins.inHead k = x 1 := Fin.ext (by show k.val % 128 = (x 1).val; omega)
  have e2 : ∀ l : Fin 128, Ins.qcol k l = ⟨B + (o + l.val), by omega⟩ := fun l =>
    Fin.ext (by simp only [Ins.qcol]; omega)
  simp only [e1, e2]

/-- After the run the second result holds the rotated query codes. -/
theorem arr11 (c : Dev nD) : (dats m 0 c).arrAt 11 cfg0.N = fun i => (ins m c).kQ (i 0) (i 1) := by
  refine (dats m 0 c).arrAt_eq_of_covers 11 _ (by decide +kernel) fun t hf y => ?_
  blk_simp
  rw [after0_11]
  simp only [outsAt0]
  frame_out
  obtain ⟨r, k, rfl⟩ : ∃ (r : Fin 256) (k : Fin 2048), y = ix2 r k := ⟨y 0, y 1, by blk_ext⟩
  have e : ((View.whole main_v5_1).slice (win0_11.rect t)).emb (ix2 r k) = ix2 (row t r) k := by
    unfold row; blk_ext [idx_facts t]
  rw [e]
  canon_tiles x h
  · exact q_piece m c t _ (B := 1536) (o := 384) (by omega) _ (by omega) slices_S256x512_o0_384_S256x128 (by omega) _ (factor_q m c t _ _ _) x r k h0 (h1.trans (by omega))
  · exact q_piece m c t _ (B := 1536) (o := 256) (by omega) _ (by omega) slices_S256x512_o0_256_S256x128 (by omega) _ (factor_q m c t _ _ _) x r k h0 (h1.trans (by omega))
  · exact q_piece m c t _ (B := 1536) (o := 128) (by omega) _ (by omega) slices_S256x512_o0_128_S256x128 (by omega) _ (factor_q m c t _ _ _) x r k h0 (h1.trans (by omega))
  · exact q_piece m c t _ (B := 1536) (o := 0) (by omega) _ (by omega) slices_S256x512_o0_0_S256x128 (by omega) _ (factor_q m c t _ _ _) x r k h0 (h1.trans (by omega))
  · exact q_piece m c t _ (B := 1024) (o := 384) (by omega) _ (by omega) slices_S256x512_o0_384_S256x128 (by omega) _ (factor_q m c t _ _ _) x r k h0 (h1.trans (by omega))
  · exact q_piece m c t _ (B := 1024) (o := 256) (by omega) _ (by omega) slices_S256x512_o0_256_S256x128 (by omega) _ (factor_q m c t _ _ _) x r k h0 (h1.trans (by omega))
  · exact q_piece m c t _ (B := 1024) (o := 128) (by omega) _ (by omega) slices_S256x512_o0_128_S256x128 (by omega) _ (factor_q m c t _ _ _) x r k h0 (h1.trans (by omega))
  · exact q_piece m c t _ (B := 1024) (o := 0) (by omega) _ (by omega) slices_S256x512_o0_0_S256x128 (by omega) _ (factor_q m c t _ _ _) x r k h0 (h1.trans (by omega))
  · exact q_piece m c t _ (B := 512) (o := 384) (by omega) _ (by omega) slices_S256x512_o0_384_S256x128 (by omega) _ (factor_q m c t _ _ _) x r k h0 (h1.trans (by omega))
  · exact q_piece m c t _ (B := 512) (o := 256) (by omega) _ (by omega) slices_S256x512_o0_256_S256x128 (by omega) _ (factor_q m c t _ _ _) x r k h0 (h1.trans (by omega))
  · exact q_piece m c t _ (B := 512) (o := 128) (by omega) _ (by omega) slices_S256x512_o0_128_S256x128 (by omega) _ (factor_q m c t _ _ _) x r k h0 (h1.trans (by omega))
  · exact q_piece m c t _ (B := 512) (o := 0) (by omega) _ (by omega) slices_S256x512_o0_0_S256x128 (by omega) _ (factor_q m c t _ _ _) x r k h0 (h1.trans (by omega))
  · exact q_piece m c t _ (B := 0) (o := 384) (by omega) _ (by omega) slices_S256x512_o0_384_S256x128 (by omega) _ (factor_q m c t _ _ _) x r k h0 (h1.trans (by omega))
  · exact q_piece m c t _ (B := 0) (o := 256) (by omega) _ (by omega) slices_S256x512_o0_256_S256x128 (by omega) _ (factor_q m c t _ _ _) x r k h0 (h1.trans (by omega))
  · exact q_piece m c t _ (B := 0) (o := 128) (by omega) _ (by omega) slices_S256x512_o0_128_S256x128 (by omega) _ (factor_q m c t _ _ _) x r k h0 (h1.trans (by omega))
  · exact q_piece m c t _ (B := 0) (o := 0) (by omega) _ (by omega) slices_S256x512_o0_0_S256x128 (by omega) _ (factor_q m c t _ _ _) x r k h0 (h1.trans (by omega))

end Cert.KBlock

end
-- ==== Proof.RPay.lean ====
/-
  The reference body's values read at an index, over the extended reals: the normalised codes, the packed product,
  its scaled column groups, and one rotated head half as a piece of the concatenation the body stores.
-/
module

public import proofs.«01_k».proof.Proof.Gen.ReferenceIdeal.Skeleton
public import proofs.«01_k».proof.Proof.Rows
public import Idealize.ShloMosaic.Lib.Pipeline.ValueKit

@[expose] public section

set_option maxRecDepth 16384

noncomputable section

namespace Cert.RPay

open Cert.ReferenceIdeal Cert.ReferenceIdeal.Gen Cert.Rows Idealize.ShloMosaic

/-- The stored normalised codes, at an index. -/
theorem pay3_apply (v0 : Vec Ideal S2304x4096 .bf16) (v2 : Vec Ideal S1x4096 .f32) (v16 : Elt Ideal .f32) (r : Fin 2304)
    (k : Fin 4096) :
    k0_pay3 v0 v2 v16 (ix2 r k) = x1Ref (fun k => v0 (ix2 r k)) (fun k => v2 (ix2 0 k)) v16 k := by
  pointwise [k0_pay3]
  rfl

/-- The packed product, at an index. -/
theorem pay4_apply (v0 : Vec Ideal S2304x4096 .bf16) (v2 : Vec Ideal S1x4096 .f32) (v16 : Elt Ideal .f32)
    (v25 : Vec Ideal S4096x3072 .fp8e4m3) (r : Fin 2304) (k : Fin 3072) :
    k0_pay4 v0 v2 v16 v25 (ix2 r k)
      = ∑ i : Fin 4096, x1Ref (fun k => v0 (ix2 r k)) (fun k => v2 (ix2 0 k)) v16 i * v25 (ix2 i k) := by
  simp only [← pay3_apply]
  unfold k0_pay4
  generalize k0_pay3 v0 v2 v16 = x1
  pointwise []

/-- The scaled query columns, at an index. -/
theorem pay5_apply (v0 : Vec Ideal S2304x4096 .bf16) (v2 : Vec Ideal S1x4096 .f32) (v16 : Elt Ideal .f32)
    (v25 : Vec Ideal S4096x3072 .fp8e4m3) (f g : Elt Ideal .f32) (r : Fin 2304) (k : Fin 2048) :
    k0_pay5 v0 v2 v16 v25 f g (ix2 r k) = k0_pay4 v0 v2 v16 v25 (ix2 r ⟨k.val, by omega⟩) * f * g := by
  unfold k0_pay5
  generalize k0_pay4 v0 v2 v16 v25 = a
  pointwise []

/-- The scaled key columns, at an index. -/
theorem pay70_apply (a : FVec Ideal S2304x3072 .f32) (f g : Elt Ideal .f32) (r : Fin 2304) (k : Fin 512) :
    k0_pay70 a f g (ix2 r k) = a (ix2 r ⟨2048 + k.val, by omega⟩) * f * g := by
  pointwise [k0_pay70]

/-- The stored value codes, at an index. -/
theorem pay2_apply (a : FVec Ideal S2304x3072 .f32) (f g q : Elt Ideal .f32) (r : Fin 2304) (k : Fin 512) :
    k0_pay2 a f g q (ix2 r k) = scaleRef (a (ix2 r ⟨2560 + k.val, by omega⟩)) f g q := by
  pointwise [k0_pay2]
  rfl

/-- `N` columns of 2304 rows. -/
abbrev Rw (N : Nat) : Shape := ⟨2, ![2304, N]⟩

/-- The quantiser of a static scale, as the body spells it. -/
def quant {N : Nat} (v : FVec Ideal (Rw N) .f32) (q : Elt Ideal .f32) : FVec Ideal (Rw N) .fp8e4m3 :=
  truncf .fp8e4m3 (minimumf (broadcast (Rw N) (Scalar.ofBits .f32 0x43E00000#32))
    (maximumf (broadcast (Rw N) (Scalar.ofBits .f32 0xC3E00000#32)) (divf v (broadcast (Rw N) q)))) bitsLt_fp8e4m3_f32

theorem quant_apply {N : Nat} (v : FVec Ideal (Rw N) .f32) (q : Elt Ideal .f32) (r : Fin 2304) (k : Fin N) :
    quant v q (ix2 r k) = clip (Ideal.div (v (ix2 r k)) q) := rfl

/-- The first half of a head after the rotation. -/
def turnA {N : Nat} {o o' : Fin 2 → Nat} (h : (Rw N).Slices o S2304x64) (h' : (Rw N).Slices o' S2304x64)
    (v : FVec Ideal (Rw N) .f32) (c s : Vec Ideal S2304x64 .f32) : FVec Ideal S2304x64 .f32 :=
  subf (mulf (extractStridedSlice S2304x64 o v h) c) (mulf (extractStridedSlice S2304x64 o' v h') s)

/-- The second half of a head after the rotation. -/
def turnB {N : Nat} {o o' : Fin 2 → Nat} (h : (Rw N).Slices o S2304x64) (h' : (Rw N).Slices o' S2304x64)
    (v : FVec Ideal (Rw N) .f32) (c s : Vec Ideal S2304x64 .f32) : FVec Ideal S2304x64 .f32 :=
  addf (mulf (extractStridedSlice S2304x64 o' v h') c) (mulf (extractStridedSlice S2304x64 o v h) s)

/-- A rotated row at a column, before the quantiser. -/
def turned {N : Nat} (hN : N % 128 = 0) (v : FVec Ideal (Rw N) .f32) (c s : Vec Ideal S2304x64 .f32) (r : Fin 2304)
    (k : Fin N) : EReal :=
  let t : Fin 128 → EReal := fun l => v (ix2 r ⟨k.val / 128 * 128 + l.val, by omega⟩)
  let j : Fin 128 := Ins.inHead k
  if j.val < 64
    then t j * c (ix2 r (lane j)) - t (other j) * s (ix2 r (lane j))
    else t j * c (ix2 r (lane j)) + t (other j) * s (ix2 r (lane j))

/-- A 64-column slice at a column offset, at an index. -/
theorem slice_apply {N o : Nat} (h : (Rw N).Slices ![0, o] S2304x64) (v : FVec Ideal (Rw N) .f32) (r : Fin 2304)
    (j : Fin 64) (k : Fin N) (hk : k.val = o + j.val) :
    extractStridedSlice S2304x64 ![0, o] v h (ix2 r j) = v (ix2 r k) := by
  unfold extractStridedSlice
  refine congrArg v ?_
  funext a
  fin_cases a
  · exact Fin.ext (Nat.zero_add _)
  · exact Fin.ext hk.symm

/-- The column of a 64-column piece. -/
def inHalf {N : Nat} (k : Fin N) : Fin 64 := ⟨k.val % 64, Nat.mod_lt _ (by decide)⟩

theorem turnA_apply {N o o' : Nat} (hN : N % 128 = 0) (h : (Rw N).Slices ![0, o] S2304x64) (h' : (Rw N).Slices ![0, o'] S2304x64)
    (v : FVec Ideal (Rw N) .f32) (c s : Vec Ideal S2304x64 .f32) (r : Fin 2304) (k : Fin N)
    (ho : o % 128 = 0) (ho' : o' = o + 64) (hk : k.val / 64 = o / 64) :
    turnA h h' v c s (ix2 r (inHalf k)) = turned hN v c s r k := by
  unfold turned
  have hlt : (Ins.inHead k).val < 64 := by show k.val % 128 < 64; omega
  dsimp only
  rw [if_pos hlt]
  have hl : lane (Ins.inHead k) = inHalf k := Fin.ext (by show k.val % 128 % 64 = k.val % 64; omega)
  rw [hl]
  have e1 := slice_apply h v r (inHalf k) ⟨k.val / 128 * 128 + (Ins.inHead k).val, by have := (Ins.inHead k).isLt; omega⟩
    (by show k.val / 128 * 128 + k.val % 128 = o + k.val % 64; omega)
  have e2 := slice_apply h' v r (inHalf k) ⟨k.val / 128 * 128 + (other (Ins.inHead k)).val, by have := (other (Ins.inHead k)).isLt; omega⟩
    (by show k.val / 128 * 128 + (k.val % 128 + 64) % 128 = o' + k.val % 64; omega)
  rw [← e1, ← e2]
  rfl

theorem turnB_apply {N o o' : Nat} (hN : N % 128 = 0) (h : (Rw N).Slices ![0, o] S2304x64) (h' : (Rw N).Slices ![0, o'] S2304x64)
    (v : FVec Ideal (Rw N) .f32) (c s : Vec Ideal S2304x64 .f32) (r : Fin 2304) (k : Fin N)
    (ho : o % 128 = 0) (ho' : o' = o + 64) (hk : k.val / 64 = o / 64 + 1) :
    turnB h h' v c s (ix2 r (inHalf k)) = turned hN v c s r k := by
  unfold turned
  have hlt : ¬ (Ins.inHead k).val < 64 := by show ¬ k.val % 128 < 64; omega
  dsimp only
  rw [if_neg hlt]
  have hl : lane (Ins.inHead k) = inHalf k := Fin.ext (by show k.val % 128 % 64 = k.val % 64; omega)
  rw [hl]
  have e1 := slice_apply h' v r (inHalf k) ⟨k.val / 128 * 128 + (Ins.inHead k).val, by have := (Ins.inHead k).isLt; omega⟩
    (by show k.val / 128 * 128 + k.val % 128 = o' + k.val % 64; omega)
  have e2 := slice_apply h v r (inHalf k) ⟨k.val / 128 * 128 + (other (Ins.inHead k)).val, by have := (other (Ins.inHead k)).isLt; omega⟩
    (by show k.val / 128 * 128 + (k.val % 128 + 64) % 128 = o + k.val % 64; omega)
  rw [← e1, ← e2]
  rfl

/-- The `n`-th of equal 64-column pieces is what the concatenation reads at a column of it. -/
theorem cat_apply {N : Nat} (xs : List ((s : Shape) × (s.Idx → EReal))) (h : Shape.Concatenates (xs.map (·.1)) (Rw N) 1)
    (r : Fin 2304) (k : Fin N) (n : Nat) (hn : n < xs.length) (x : S2304x64.Idx → EReal) (hx : xs[n] = ⟨S2304x64, x⟩)
    {M : Nat} (hm : xs.map (·.1) = List.replicate M S2304x64)
    (hk : k.val / 64 = n) : concatenate (Rw N) 1 xs h (ix2 r k) = x (ix2 r (inHalf k)) := by
  have hM : xs.length = M := by have := congrArg List.length hm; simpa using this
  have hp : (((xs.take n).map (·.1)).map fun s => if h : s.rank = (Rw N).rank
      then s.size ((1 : Fin (Rw N).rank).cast h.symm) else 0).sum = 64 * n := by
    rw [List.map_take, hm, List.take_replicate, List.map_replicate, List.sum_replicate, Nat.min_eq_left (hM ▸ hn.le),
      dif_pos rfl, smul_eq_mul, mul_comm]
    rfl
  refine concatenate_apply_piece 1 xs h (ix2 r k) n hn S2304x64 x hx rfl (64 * n) hp (ix2 r (inHalf k)) ?_ ?_
  · intro b hb
    fin_cases b
    · rfl
    · exact absurd rfl hb
  · show 64 * n + k.val % 64 = k.val
    omega

end Cert.RPay

end
-- ==== Proof.RBlock.lean ====
/-
  The reference's blocks, and what it leaves in its normalised codes, key and value results.
-/
module

public import proofs.«01_k».proof.Proof.Gen.ReferenceIdeal.Value
public import proofs.«01_k».proof.Proof.RPay
public import Idealize.ShloMosaic.Lib.Pipeline.ValueKit
public import Idealize.ShloMosaic.Lib.Pipeline.ReadBack

@[expose] public section

set_option maxRecDepth 16384

noncomputable section

namespace Cert.RBlock

open Cert.ReferenceIdeal Cert.ReferenceIdeal.Gen Cert.Rows Cert.RPay Idealize.ShloMosaic Idealize.ShloMosaic.TcCoe Idealize.SL.Sem
open Idealize.ShloMosaic.Pipeline (Dat)

variable (m : (ℓ : Loc nD τ sig) → Buf (Elt Ideal) ℓ)

/-- The arguments as the launch finds them. -/
def ins (c : Dev nD) : Ins where
  x R k := m ((c : Thread nD τ).loc main_arg0) (ix2 R k)
  c R k := m ((c : Thread nD τ).loc main_arg1) (ix2 R k)
  s R k := m ((c : Thread nD τ).loc main_arg2) (ix2 R k)
  w k := m ((c : Thread nD τ).loc main_arg3) (ix1 k)
  sx := m ((c : Thread nD τ).loc main_arg4) ix0
  W k j := m ((c : Thread nD τ).loc main_arg5) (ix2 k j)
  ws j := m ((c : Thread nD τ).loc main_arg6) (ix1 j)
  sq := m ((c : Thread nD τ).loc main_arg7) ix0
  sk := m ((c : Thread nD τ).loc main_arg8) ix0
  sv := m ((c : Thread nD τ).loc main_arg9) ix0

theorem idx_facts : ∀ t : Fin cfg0.N, win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

theorem idx_scal : ∀ t : Fin cfg0.N, win0_0.index t = ![0] ∧ win0_1.index t = ![0] ∧ win0_2.index t = ![0]
    ∧ win0_3.index t = ![0] ∧ win0_4.index t = ![0] :=
  (by decide +kernel : ∀ t : Fin grid0.N, _)

theorem blk5 (c : Dev nD) (t : Fin cfg0.N) (r : Fin 2304) (k : Fin 4096) :
    iblk m c 5 t (ix2 r k) = (ins m c).x r k := by
  show _ = m ((c : Thread nD τ).loc main_arg0) (ix2 r k)
  blk_ext [iblk, V_main_arg0, idx_facts t]

theorem blk8 (c : Dev nD) (t : Fin cfg0.N) (r : Fin 2304) (k : Fin 64) :
    iblk m c 8 t (ix2 r k) = (ins m c).c r k := by
  show _ = m ((c : Thread nD τ).loc main_arg1) (ix2 r k)
  blk_ext [iblk, V_main_arg1, idx_facts t]

theorem blk9 (c : Dev nD) (t : Fin cfg0.N) (r : Fin 2304) (k : Fin 64) :
    iblk m c 9 t (ix2 r k) = (ins m c).s r k := by
  show _ = m ((c : Thread nD τ).loc main_arg2) (ix2 r k)
  blk_ext [iblk, V_main_arg2, idx_facts t]

theorem blk6 (c : Dev nD) (t : Fin cfg0.N) (r : Fin 4096) (k : Fin 3072) :
    iblk m c 6 t (ix2 r k) = (ins m c).W r k := by
  show _ = m ((c : Thread nD τ).loc main_arg5) (ix2 r k)
  blk_ext [iblk, V_main_arg5, idx_facts t]

theorem blk7 (c : Dev nD) (t : Fin cfg0.N) (k : Fin 4096) :
    iblk m c 7 t (ix2 0 k) = (ins m c).w k := by
  show _ = m ((c : Thread nD τ).loc main_arg3) (ix1 k)
  blk_point [iblk, V, idx_facts t]

theorem scal0 (c : Dev nD) (t : Fin cfg0.N) (h) :
    iblk m c 0 t (Shape.Idx.first (s := S1) h) = (ins m c).sx := by
  show _ = m ((c : Thread nD τ).loc main_arg4) ix0
  blk_point [iblk, V, idx_scal t]

theorem scal2 (c : Dev nD) (t : Fin cfg0.N) (h) :
    iblk m c 2 t (Shape.Idx.first (s := S1) h) = (ins m c).sq := by
  show _ = m ((c : Thread nD τ).loc main_arg7) ix0
  blk_point [iblk, V, idx_scal t]

theorem scal3 (c : Dev nD) (t : Fin cfg0.N) (h) :
    iblk m c 3 t (Shape.Idx.first (s := S1) h) = (ins m c).sk := by
  show _ = m ((c : Thread nD τ).loc main_arg8) ix0
  blk_point [iblk, V, idx_scal t]

theorem scal4 (c : Dev nD) (t : Fin cfg0.N) (h) :
    iblk m c 4 t (Shape.Idx.first (s := S1) h) = (ins m c).sv := by
  show _ = m ((c : Thread nD τ).loc main_arg9) ix0
  blk_point [iblk, V, idx_scal t]

theorem ld1 (c : Dev nD) (t : Fin cfg0.N) (i : Fin 3) (hi) (h) :
    View.ld (iblk m c 1 t) (Rect.unit ![i.val] ![1] hi) (Shape.Idx.first h) = (ins m c).ws i := by
  show _ = m ((c : Thread nD τ).loc main_arg6) (ix1 i)
  rw [View.ld_apply]
  blk_point [iblk, V, idx_scal t]
  rfl

/-- After the run the first result holds the normalised codes. -/
theorem arr10 (c : Dev nD) : (dats m 0 c).arrAt 10 cfg0.N = fun i => (ins m c).rX1 (i 0) (i 1) := by
  refine (dats m 0 c).arrAt_eq_of_covers 10 _ (by decide +kernel) fun t hf y => ?_
  blk_simp
  rw [after0_10]
  simp only [outsAt0]
  frame_out
  simp only [read_unread_whole]
  obtain ⟨r, k, rfl⟩ : ∃ (r : Fin 2304) (k : Fin 4096), y = ix2 r k := ⟨y 0, y 1, by blk_ext⟩
  have e : ((View.whole main_v5_0).slice (win0_10.rect t)).emb (ix2 r k) = ix2 r k := by
    blk_ext [idx_facts t]
  rw [e]
  rw [pay3_apply]
  simp only [scal0, blk5, blk7]
  rfl

/-- The packed product, at an index. -/
theorem dot_eq (c : Dev nD) (t : Fin cfg0.N) (h) (r : Fin 2304) (k : Fin 3072) :
    k0_pay4 (iblk m c 5 t) (iblk m c 7 t) (iblk m c 0 t (Shape.Idx.first (s := S1) h)) (iblk m c 6 t) (ix2 r k)
      = (ins m c).dot ((ins m c).rX1 r) k := by
  rw [pay4_apply]
  simp only [scal0, blk5, blk6, blk7]
  rfl

/-- After the run the fourth result holds the value codes. -/
theorem arr13 (c : Dev nD) : (dats m 0 c).arrAt 13 cfg0.N = fun i => (ins m c).rV (i 0) (i 1) := by
  refine (dats m 0 c).arrAt_eq_of_covers 13 _ (by decide +kernel) fun t hf y => ?_
  blk_simp
  rw [after0_13]
  simp only [outsAt0]
  frame_out
  simp only [read_unread_whole]
  obtain ⟨r, k, rfl⟩ : ∃ (r : Fin 2304) (k : Fin 512), y = ix2 r k := ⟨y 0, y 1, by blk_ext⟩
  have e : ((View.whole main_v5_3).slice (win0_13.rect t)).emb (ix2 r k) = ix2 r k := by
    blk_ext [idx_facts t]
  rw [e]
  rw [pay2_apply, dot_eq, scal0, scal4]
  exact congrArg (fun g => scaleRef _ _ g _) (ld1 m c t 2 inb_S3_S1_2 _)

/-- The scaled key columns, rotated and quantised, are the key row. -/
theorem k_row (c : Dev nD) (t : Fin cfg0.N) (r : Fin 2304) (k : Fin 512) (v : FVec Ideal (Rw 512) .f32)
    (hv : ∀ j : Fin 512, v (ix2 r j) = (ins m c).dot ((ins m c).rX1 r) ⟨2048 + j.val, by omega⟩ * (ins m c).sx * (ins m c).ws 1) :
    clip (Ideal.div (turned (by decide) v (iblk m c 8 t) (iblk m c 9 t) r k) (ins m c).sk) = (ins m c).rK r k := by
  unfold turned Ins.rK ropeRef
  simp only [hv, blk8, blk9, Ins.kcol, Nat.add_assoc]

/-- After the run the third result holds the rotated key codes. -/
theorem arr12 (c : Dev nD) : (dats m 0 c).arrAt 12 cfg0.N = fun i => (ins m c).rK (i 0) (i 1) := by
  refine (dats m 0 c).arrAt_eq_of_covers 12 _ (by decide +kernel) fun t hf y => ?_
  blk_simp
  rw [after0_12]
  simp only [outsAt0]
  frame_out
  simp only [read_unread_whole]
  obtain ⟨r, k, rfl⟩ : ∃ (r : Fin 2304) (k : Fin 512), y = ix2 r k := ⟨y 0, y 1, by blk_ext⟩
  have e : ((View.whole main_v5_2).slice (win0_12.rect t)).emb (ix2 r k) = ix2 r k := by
    blk_ext [idx_facts t]
  rw [e]
  refine (quant_apply (concatenate _ 1 _ _) _ r k).trans ?_
  rw [scal3]
  refine (congrArg (fun z => clip (Ideal.div z (ins m c).sk)) ?_).trans (k_row m c t r k
    (k0_pay70 (k0_pay4 (iblk m c 5 t) (iblk m c 7 t) (iblk m c 0 t (Shape.Idx.first (s := S1) (by decide))) (iblk m c 6 t))
      (iblk m c 0 t (Shape.Idx.first (s := S1) (by decide))) (View.ld (iblk m c 1 t) (Rect.unit ![1] ![1] inb_S3_S1_1) (Shape.Idx.first (by show 0 < 1; decide)))) fun j => ?_)
  · have hk := k.isLt
    have hn : k.val / 64 < 8 := by omega
    generalize hq : k.val / 64 = n at hn
    interval_cases n
    · exact (cat_apply _ _ r k 0 (by show 0 < 8; decide) _ rfl (M := 8) rfl hq).trans
        (turnA_apply (o := 0) (o' := 64) (by decide) slices_S2304x512_o0_0_S2304x64 slices_S2304x512_o0_64_S2304x64 _ _ _ r k
          (by decide) (by decide) hq)
    · exact (cat_apply _ _ r k 1 (by show 1 < 8; decide) _ rfl (M := 8) rfl hq).trans
        (turnB_apply (o := 0) (o' := 64) (by decide) slices_S2304x512_o0_0_S2304x64 slices_S2304x512_o0_64_S2304x64 _ _ _ r k
          (by decide) (by decide) hq)
    · exact (cat_apply _ _ r k 2 (by show 2 < 8; decide) _ rfl (M := 8) rfl hq).trans
        (turnA_apply (o := 128) (o' := 192) (by decide) slices_S2304x512_o0_128_S2304x64 slices_S2304x512_o0_192_S2304x64 _ _ _ r k
          (by decide) (by decide) hq)
    · exact (cat_apply _ _ r k 3 (by show 3 < 8; decide) _ rfl (M := 8) rfl hq).trans
        (turnB_apply (o := 128) (o' := 192) (by decide) slices_S2304x512_o0_128_S2304x64 slices_S2304x512_o0_192_S2304x64 _ _ _ r k
          (by decide) (by decide) hq)
    · exact (cat_apply _ _ r k 4 (by show 4 < 8; decide) _ rfl (M := 8) rfl hq).trans
        (turnA_apply (o := 256) (o' := 320) (by decide) slices_S2304x512_o0_256_S2304x64 slices_S2304x512_o0_320_S2304x64 _ _ _ r k
          (by decide) (by decide) hq)
    · exact (cat_apply _ _ r k 5 (by show 5 < 8; decide) _ rfl (M := 8) rfl hq).trans
        (turnB_apply (o := 256) (o' := 320) (by decide) slices_S2304x512_o0_256_S2304x64 slices_S2304x512_o0_320_S2304x64 _ _ _ r k
          (by decide) (by decide) hq)
    · exact (cat_apply _ _ r k 6 (by show 6 < 8; decide) _ rfl (M := 8) rfl hq).trans
        (turnA_apply (o := 384) (o' := 448) (by decide) slices_S2304x512_o0_384_S2304x64 slices_S2304x512_o0_448_S2304x64 _ _ _ r k
          (by decide) (by decide) hq)
    · exact (cat_apply _ _ r k 7 (by show 7 < 8; decide) _ rfl (M := 8) rfl hq).trans
        (turnB_apply (o := 384) (o' := 448) (by decide) slices_S2304x512_o0_384_S2304x64 slices_S2304x512_o0_448_S2304x64 _ _ _ r k
          (by decide) (by decide) hq)
  · rw [pay70_apply, dot_eq, scal0]
    exact congrArg (_ * ·) (ld1 m c t 1 inb_S3_S1_1 _)

end Cert.RBlock

end
-- ==== Proof.RQValue.lean ====
/-
  What the reference leaves in its query result.
-/
module

public import proofs.«01_k».proof.Proof.Gen.ReferenceIdeal.Value
public import proofs.«01_k».proof.Proof.RBlock
public import Idealize.ShloMosaic.Lib.Pipeline.ValueKit
public import Idealize.ShloMosaic.Lib.Pipeline.ReadBack

@[expose] public section

set_option maxRecDepth 16384

noncomputable section

namespace Cert.RBlock

open Cert.ReferenceIdeal Cert.ReferenceIdeal.Gen Cert.Rows Cert.RPay Idealize.ShloMosaic Idealize.ShloMosaic.TcCoe Idealize.SL.Sem
open Idealize.ShloMosaic.Pipeline (Dat)

variable (m : (ℓ : Loc nD τ sig) → Buf (Elt Ideal) ℓ)

/-- The scaled query columns, rotated and quantised, are the query row. -/
theorem q_row (c : Dev nD) (t : Fin cfg0.N) (r : Fin 2304) (k : Fin 2048) (v : FVec Ideal (Rw 2048) .f32)
    (hv : ∀ j : Fin 2048, v (ix2 r j) = (ins m c).dot ((ins m c).rX1 r) ⟨j.val, by omega⟩ * (ins m c).sx * (ins m c).ws 0) :
    clip (Ideal.div (turned (by decide) v (iblk m c 8 t) (iblk m c 9 t) r k) (ins m c).sq) = (ins m c).rQ r k := by
  unfold turned Ins.rQ ropeRef
  simp only [hv, blk8, blk9, Ins.qcol, Nat.add_assoc]

/-- The scaled query columns as the body computes them. -/
abbrev V (c : Dev nD) (t : Fin cfg0.N) : FVec Ideal (Rw 2048) .f32 :=
  k0_pay5 (iblk m c 5 t) (iblk m c 7 t) (iblk m c 0 t (Shape.Idx.first (s := S1) (by decide))) (iblk m c 6 t)
      (iblk m c 0 t (Shape.Idx.first (s := S1) (by decide))) (View.ld (iblk m c 1 t) (Rect.unit ![0] ![1] inb_S3_S1_0) (Shape.Idx.first (by show 0 < 1; decide)))

/-- After the run the second result holds the rotated query codes. -/
theorem arr11 (c : Dev nD) : (dats m 0 c).arrAt 11 cfg0.N = fun i => (ins m c).rQ (i 0) (i 1) := by
  refine (dats m 0 c).arrAt_eq_of_covers 11 _ (by decide +kernel) fun t hf y => ?_
  blk_simp
  rw [after0_11]
  simp only [outsAt0]
  frame_out
  simp only [read_unread_whole]
  obtain ⟨r, k, rfl⟩ : ∃ (r : Fin 2304) (k : Fin 2048), y = ix2 r k := ⟨y 0, y 1, by blk_ext⟩
  have e : ((View.whole main_v5_1).slice (win0_11.rect t)).emb (ix2 r k) = ix2 r k := by
    blk_ext [idx_facts t]
  rw [e]
  refine (quant_apply (concatenate _ 1 _ _) _ r k).trans ?_
  rw [scal2]
  refine (congrArg (fun z => clip (Ideal.div z (ins m c).sq)) ?_).trans (q_row m c t r k (V m c t) fun j => ?_)
  · have hk := k.isLt
    have hn : k.val / 64 < 32 := by omega
    generalize hq : k.val / 64 = n at hn
    interval_cases n
    · exact Eq.trans (b := turnA slices_S2304x2048_o0_0_S2304x64 slices_S2304x2048_o0_64_S2304x64 (V m c t) (iblk m c 8 t) (iblk m c 9 t) (ix2 r (inHalf k)))
        (cat_apply _ _ r k 0 (by show 0 < 32; decide) _ rfl (M := 32) rfl hq)
        (turnA_apply (o := 0) (o' := 64) (by decide) _ _ _ _ _ r k (by decide) (by decide) hq)
    · exact Eq.trans (b := turnB slices_S2304x2048_o0_0_S2304x64 slices_S2304x2048_o0_64_S2304x64 (V m c t) (iblk m c 8 t) (iblk m c 9 t) (ix2 r (inHalf k)))
        (cat_apply _ _ r k 1 (by show 1 < 32; decide) _ rfl (M := 32) rfl hq)
        (turnB_apply (o := 0) (o' := 64) (by decide) _ _ _ _ _ r k (by decide) (by decide) hq)
    · exact Eq.trans (b := turnA slices_S2304x2048_o0_128_S2304x64 slices_S2304x2048_o0_192_S2304x64 (V m c t) (iblk m c 8 t) (iblk m c 9 t) (ix2 r (inHalf k)))
        (cat_apply _ _ r k 2 (by show 2 < 32; decide) _ rfl (M := 32) rfl hq)
        (turnA_apply (o := 128) (o' := 192) (by decide) _ _ _ _ _ r k (by decide) (by decide) hq)
    · exact Eq.trans (b := turnB slices_S2304x2048_o0_128_S2304x64 slices_S2304x2048_o0_192_S2304x64 (V m c t) (iblk m c 8 t) (iblk m c 9 t) (ix2 r (inHalf k)))
        (cat_apply _ _ r k 3 (by show 3 < 32; decide) _ rfl (M := 32) rfl hq)
        (turnB_apply (o := 128) (o' := 192) (by decide) _ _ _ _ _ r k (by decide) (by decide) hq)
    · exact Eq.trans (b := turnA slices_S2304x2048_o0_256_S2304x64 slices_S2304x2048_o0_320_S2304x64 (V m c t) (iblk m c 8 t) (iblk m c 9 t) (ix2 r (inHalf k)))
        (cat_apply _ _ r k 4 (by show 4 < 32; decide) _ rfl (M := 32) rfl hq)
        (turnA_apply (o := 256) (o' := 320) (by decide) _ _ _ _ _ r k (by decide) (by decide) hq)
    · exact Eq.trans (b := turnB slices_S2304x2048_o0_256_S2304x64 slices_S2304x2048_o0_320_S2304x64 (V m c t) (iblk m c 8 t) (iblk m c 9 t) (ix2 r (inHalf k)))
        (cat_apply _ _ r k 5 (by show 5 < 32; decide) _ rfl (M := 32) rfl hq)
        (turnB_apply (o := 256) (o' := 320) (by decide) _ _ _ _ _ r k (by decide) (by decide) hq)
    · exact Eq.trans (b := turnA slices_S2304x2048_o0_384_S2304x64 slices_S2304x2048_o0_448_S2304x64 (V m c t) (iblk m c 8 t) (iblk m c 9 t) (ix2 r (inHalf k)))
        (cat_apply _ _ r k 6 (by show 6 < 32; decide) _ rfl (M := 32) rfl hq)
        (turnA_apply (o := 384) (o' := 448) (by decide) _ _ _ _ _ r k (by decide) (by decide) hq)
    · exact Eq.trans (b := turnB slices_S2304x2048_o0_384_S2304x64 slices_S2304x2048_o0_448_S2304x64 (V m c t) (iblk m c 8 t) (iblk m c 9 t) (ix2 r (inHalf k)))
        (cat_apply _ _ r k 7 (by show 7 < 32; decide) _ rfl (M := 32) rfl hq)
        (turnB_apply (o := 384) (o' := 448) (by decide) _ _ _ _ _ r k (by decide) (by decide) hq)
    · exact Eq.trans (b := turnA slices_S2304x2048_o0_512_S2304x64 slices_S2304x2048_o0_576_S2304x64 (V m c t) (iblk m c 8 t) (iblk m c 9 t) (ix2 r (inHalf k)))
        (cat_apply _ _ r k 8 (by show 8 < 32; decide) _ rfl (M := 32) rfl hq)
        (turnA_apply (o := 512) (o' := 576) (by decide) _ _ _ _ _ r k (by decide) (by decide) hq)
    · exact Eq.trans (b := turnB slices_S2304x2048_o0_512_S2304x64 slices_S2304x2048_o0_576_S2304x64 (V m c t) (iblk m c 8 t) (iblk m c 9 t) (ix2 r (inHalf k)))
        (cat_apply _ _ r k 9 (by show 9 < 32; decide) _ rfl (M := 32) rfl hq)
        (turnB_apply (o := 512) (o' := 576) (by decide) _ _ _ _ _ r k (by decide) (by decide) hq)
    · exact Eq.trans (b := turnA slices_S2304x2048_o0_640_S2304x64 slices_S2304x2048_o0_704_S2304x64 (V m c t) (iblk m c 8 t) (iblk m c 9 t) (ix2 r (inHalf k)))
        (cat_apply _ _ r k 10 (by show 10 < 32; decide) _ rfl (M := 32) rfl hq)
        (turnA_apply (o := 640) (o' := 704) (by decide) _ _ _ _ _ r k (by decide) (by decide) hq)
    · exact Eq.trans (b := turnB slices_S2304x2048_o0_640_S2304x64 slices_S2304x2048_o0_704_S2304x64 (V m c t) (iblk m c 8 t) (iblk m c 9 t) (ix2 r (inHalf k)))
        (cat_apply _ _ r k 11 (by show 11 < 32; decide) _ rfl (M := 32) rfl hq)
        (turnB_apply (o := 640) (o' := 704) (by decide) _ _ _ _ _ r k (by decide) (by decide) hq)
    · exact Eq.trans (b := turnA slices_S2304x2048_o0_768_S2304x64 slices_S2304x2048_o0_832_S2304x64 (V m c t) (iblk m c 8 t) (iblk m c 9 t) (ix2 r (inHalf k)))
        (cat_apply _ _ r k 12 (by show 12 < 32; decide) _ rfl (M := 32) rfl hq)
        (turnA_apply (o := 768) (o' := 832) (by decide) _ _ _ _ _ r k (by decide) (by decide) hq)
    · exact Eq.trans (b := turnB slices_S2304x2048_o0_768_S2304x64 slices_S2304x2048_o0_832_S2304x64 (V m c t) (iblk m c 8 t) (iblk m c 9 t) (ix2 r (inHalf k)))
        (cat_apply _ _ r k 13 (by show 13 < 32; decide) _ rfl (M := 32) rfl hq)
        (turnB_apply (o := 768) (o' := 832) (by decide) _ _ _ _ _ r k (by decide) (by decide) hq)
    · exact Eq.trans (b := turnA slices_S2304x2048_o0_896_S2304x64 slices_S2304x2048_o0_960_S2304x64 (V m c t) (iblk m c 8 t) (iblk m c 9 t) (ix2 r (inHalf k)))
        (cat_apply _ _ r k 14 (by show 14 < 32; decide) _ rfl (M := 32) rfl hq)
        (turnA_apply (o := 896) (o' := 960) (by decide) _ _ _ _ _ r k (by decide) (by decide) hq)
    · exact Eq.trans (b := turnB slices_S2304x2048_o0_896_S2304x64 slices_S2304x2048_o0_960_S2304x64 (V m c t) (iblk m c 8 t) (iblk m c 9 t) (ix2 r (inHalf k)))
        (cat_apply _ _ r k 15 (by show 15 < 32; decide) _ rfl (M := 32) rfl hq)
        (turnB_apply (o := 896) (o' := 960) (by decide) _ _ _ _ _ r k (by decide) (by decide) hq)
    · exact Eq.trans (b := turnA slices_S2304x2048_o0_1024_S2304x64 slices_S2304x2048_o0_1088_S2304x64 (V m c t) (iblk m c 8 t) (iblk m c 9 t) (ix2 r (inHalf k)))
        (cat_apply _ _ r k 16 (by show 16 < 32; decide) _ rfl (M := 32) rfl hq)
        (turnA_apply (o := 1024) (o' := 1088) (by decide) _ _ _ _ _ r k (by decide) (by decide) hq)
    · exact Eq.trans (b := turnB slices_S2304x2048_o0_1024_S2304x64 slices_S2304x2048_o0_1088_S2304x64 (V m c t) (iblk m c 8 t) (iblk m c 9 t) (ix2 r (inHalf k)))
        (cat_apply _ _ r k 17 (by show 17 < 32; decide) _ rfl (M := 32) rfl hq)
        (turnB_apply (o := 1024) (o' := 1088) (by decide) _ _ _ _ _ r k (by decide) (by decide) hq)
    · exact Eq.trans (b := turnA slices_S2304x2048_o0_1152_S2304x64 slices_S2304x2048_o0_1216_S2304x64 (V m c t) (iblk m c 8 t) (iblk m c 9 t) (ix2 r (inHalf k)))
        (cat_apply _ _ r k 18 (by show 18 < 32; decide) _ rfl (M := 32) rfl hq)
        (turnA_apply (o := 1152) (o' := 1216) (by decide) _ _ _ _ _ r k (by decide) (by decide) hq)
    · exact Eq.trans (b := turnB slices_S2304x2048_o0_1152_S2304x64 slices_S2304x2048_o0_1216_S2304x64 (V m c t) (iblk m c 8 t) (iblk m c 9 t) (ix2 r (inHalf k)))
        (cat_apply _ _ r k 19 (by show 19 < 32; decide) _ rfl (M := 32) rfl hq)
        (turnB_apply (o := 1152) (o' := 1216) (by decide) _ _ _ _ _ r k (by decide) (by decide) hq)
    · exact Eq.trans (b := turnA slices_S2304x2048_o0_1280_S2304x64 slices_S2304x2048_o0_1344_S2304x64 (V m c t) (iblk m c 8 t) (iblk m c 9 t) (ix2 r (inHalf k)))
        (cat_apply _ _ r k 20 (by show 20 < 32; decide) _ rfl (M := 32) rfl hq)
        (turnA_apply (o := 1280) (o' := 1344) (by decide) _ _ _ _ _ r k (by decide) (by decide) hq)
    · exact Eq.trans (b := turnB slices_S2304x2048_o0_1280_S2304x64 slices_S2304x2048_o0_1344_S2304x64 (V m c t) (iblk m c 8 t) (iblk m c 9 t) (ix2 r (inHalf k)))
        (cat_apply _ _ r k 21 (by show 21 < 32; decide) _ rfl (M := 32) rfl hq)
        (turnB_apply (o := 1280) (o' := 1344) (by decide) _ _ _ _ _ r k (by decide) (by decide) hq)
    · exact Eq.trans (b := turnA slices_S2304x2048_o0_1408_S2304x64 slices_S2304x2048_o0_1472_S2304x64 (V m c t) (iblk m c 8 t) (iblk m c 9 t) (ix2 r (inHalf k)))
        (cat_apply _ _ r k 22 (by show 22 < 32; decide) _ rfl (M := 32) rfl hq)
        (turnA_apply (o := 1408) (o' := 1472) (by decide) _ _ _ _ _ r k (by decide) (by decide) hq)
    · exact Eq.trans (b := turnB slices_S2304x2048_o0_1408_S2304x64 slices_S2304x2048_o0_1472_S2304x64 (V m c t) (iblk m c 8 t) (iblk m c 9 t) (ix2 r (inHalf k)))
        (cat_apply _ _ r k 23 (by show 23 < 32; decide) _ rfl (M := 32) rfl hq)
        (turnB_apply (o := 1408) (o' := 1472) (by decide) _ _ _ _ _ r k (by decide) (by decide) hq)
    · exact Eq.trans (b := turnA slices_S2304x2048_o0_1536_S2304x64 slices_S2304x2048_o0_1600_S2304x64 (V m c t) (iblk m c 8 t) (iblk m c 9 t) (ix2 r (inHalf k)))
        (cat_apply _ _ r k 24 (by show 24 < 32; decide) _ rfl (M := 32) rfl hq)
        (turnA_apply (o := 1536) (o' := 1600) (by decide) _ _ _ _ _ r k (by decide) (by decide) hq)
    · exact Eq.trans (b := turnB slices_S2304x2048_o0_1536_S2304x64 slices_S2304x2048_o0_1600_S2304x64 (V m c t) (iblk m c 8 t) (iblk m c 9 t) (ix2 r (inHalf k)))
        (cat_apply _ _ r k 25 (by show 25 < 32; decide) _ rfl (M := 32) rfl hq)
        (turnB_apply (o := 1536) (o' := 1600) (by decide) _ _ _ _ _ r k (by decide) (by decide) hq)
    · exact Eq.trans (b := turnA slices_S2304x2048_o0_1664_S2304x64 slices_S2304x2048_o0_1728_S2304x64 (V m c t) (iblk m c 8 t) (iblk m c 9 t) (ix2 r (inHalf k)))
        (cat_apply _ _ r k 26 (by show 26 < 32; decide) _ rfl (M := 32) rfl hq)
        (turnA_apply (o := 1664) (o' := 1728) (by decide) _ _ _ _ _ r k (by decide) (by decide) hq)
    · exact Eq.trans (b := turnB slices_S2304x2048_o0_1664_S2304x64 slices_S2304x2048_o0_1728_S2304x64 (V m c t) (iblk m c 8 t) (iblk m c 9 t) (ix2 r (inHalf k)))
        (cat_apply _ _ r k 27 (by show 27 < 32; decide) _ rfl (M := 32) rfl hq)
        (turnB_apply (o := 1664) (o' := 1728) (by decide) _ _ _ _ _ r k (by decide) (by decide) hq)
    · exact Eq.trans (b := turnA slices_S2304x2048_o0_1792_S2304x64 slices_S2304x2048_o0_1856_S2304x64 (V m c t) (iblk m c 8 t) (iblk m c 9 t) (ix2 r (inHalf k)))
        (cat_apply _ _ r k 28 (by show 28 < 32; decide) _ rfl (M := 32) rfl hq)
        (turnA_apply (o := 1792) (o' := 1856) (by decide) _ _ _ _ _ r k (by decide) (by decide) hq)
    · exact Eq.trans (b := turnB slices_S2304x2048_o0_1792_S2304x64 slices_S2304x2048_o0_1856_S2304x64 (V m c t) (iblk m c 8 t) (iblk m c 9 t) (ix2 r (inHalf k)))
        (cat_apply _ _ r k 29 (by show 29 < 32; decide) _ rfl (M := 32) rfl hq)
        (turnB_apply (o := 1792) (o' := 1856) (by decide) _ _ _ _ _ r k (by decide) (by decide) hq)
    · exact Eq.trans (b := turnA slices_S2304x2048_o0_1920_S2304x64 slices_S2304x2048_o0_1984_S2304x64 (V m c t) (iblk m c 8 t) (iblk m c 9 t) (ix2 r (inHalf k)))
        (cat_apply _ _ r k 30 (by show 30 < 32; decide) _ rfl (M := 32) rfl hq)
        (turnA_apply (o := 1920) (o' := 1984) (by decide) _ _ _ _ _ r k (by decide) (by decide) hq)
    · exact Eq.trans (b := turnB slices_S2304x2048_o0_1920_S2304x64 slices_S2304x2048_o0_1984_S2304x64 (V m c t) (iblk m c 8 t) (iblk m c 9 t) (ix2 r (inHalf k)))
        (cat_apply _ _ r k 31 (by show 31 < 32; decide) _ rfl (M := 32) rfl hq)
        (turnB_apply (o := 1920) (o' := 1984) (by decide) _ _ _ _ _ r k (by decide) (by decide) hq)
  · rw [V, pay5_apply, dot_eq, scal0]
    exact congrArg (_ * ·) (ld1 m c t 0 inb_S3_S1_0 _)

end Cert.RBlock

end
-- ==== Proof.QkvPre.lean ====
/-
  What the precondition says of the scales.
-/
module

public import proofs.«01_k».proof.Proof.Gen.Pre_scales_ok
public import proofs.«01_k».proof.Proof.Rows

@[expose] public section

set_option maxRecDepth 16384

noncomputable section

namespace Cert.QkvPre

open Cert.Pre_scales_ok Cert.Pre_scales_ok.Gen Cert.Rows Idealize.ShloMosaic

theorem and_one (a b : BitVec 1) : a &&& b = 1#1 ↔ a = 1#1 ∧ b = 1#1 := by
  revert a b; decide

theorem ofBool_one (b : Bool) : BitVec.ofBool b = 1#1 ↔ b = true := by
  revert b; decide

theorem inf_eq : Ideal.ofBits .f32 0x7F800000#32 = ⊤ := by
  simp [Ideal.ofBits, Ideal.ieee]

/-- The precondition, read at the scales. -/
theorem scales (a0 a1 a2 a3) (a4 : FVec Ideal S_ .f32) (a5) (a6 : FVec Ideal S3 .f32) (a7 a8 a9 : FVec Ideal S_ .f32)
    (h : fn (F := Ideal) a0 a1 a2 a3 a4 a5 a6 a7 a8 a9 = fun _ => 1#1) :
    (0 < a4 ix0 ∧ a4 ix0 < ⊤) ∧ (0 ≤ a6 (ix1 0) ∧ a6 (ix1 0) < ⊤) ∧ (0 ≤ a6 (ix1 1) ∧ a6 (ix1 1) < ⊤)
      ∧ a7 ix0 ≠ 0 ∧ a8 ix0 ≠ 0 ∧ a9 ix0 ≠ 0 := by
  have h := congrFun h ix0
  pointwise [fn, fn_part1] at h
  rw [inf_eq] at h
  simp only [IntOp.andi, and_one, ofBool_one, decide_eq_true_eq] at h
  obtain ⟨⟨⟨⟨⟨⟨⟨⟨h1, h2⟩, h3⟩, h4⟩, h5⟩, h6⟩, h7⟩, h8⟩, h9⟩ := h
  exact ⟨⟨h1, h2⟩, ⟨h3, h4⟩, ⟨h5, h6⟩, h7, h8, h9⟩

end Cert.QkvPre

end
-- ==== Proof.Qkv.lean ====
/-
  The claims about the QKV call: from memories agreeing on the arguments, both programs leave the same four arrays.
-/
module

public import proofs.«01_k».proof.Defs
public import proofs.«01_k».proof.Proof.KvValue
public import proofs.«01_k».proof.Proof.QValue
public import proofs.«01_k».proof.Proof.RQValue
public import proofs.«01_k».proof.Proof.QkvPre
public import proofs.«01_k».proof.Proof.Gen.KernelIdeal
public import proofs.«01_k».proof.Proof.Gen.ReferenceIdeal

@[expose] public section

set_option maxRecDepth 16384

noncomputable section

namespace Cert.Qkv

open Cert.Rows Idealize.ShloMosaic Idealize.ShloMosaic.TcCoe Idealize.SL.Sem

/-- Under the precondition the scales are as the row equations need them. -/
theorem ok (m : (ℓ : Loc KernelIdeal.nD KernelIdeal.τ KernelIdeal.sig) → Buf (Elt Ideal) ℓ)
    (h : @Pre_KernelIdeal_scales_ok Pre_scales_ok.Gen.facts m) (c : Dev KernelIdeal.nD) : (KBlock.ins m c).Ok := by
  obtain ⟨h1, h2, h3, h4, h5, h6⟩ := QkvPre.scales _ _ _ _ _ _ _ _ _ _ (h c)
  exact ⟨h1, h2, h3, h4, h5, h6⟩

theorem algebraic : @algebraic_KernelIdeal_ReferenceIdeal_pre_scales_ok KernelIdeal.Gen.facts ReferenceIdeal.Gen.facts
    Pre_scales_ok.Gen.facts := by
  intro m g m' g' hpre hag
  have hins : ∀ c, RBlock.ins m' c = KBlock.ins m c := by
    intro c
    obtain ⟨a0, a1, a2, a3, a4, a5, a6, a7, a8, a9⟩ := hag c
    unfold RBlock.ins KBlock.ins
    rw [a0, a1, a2, a3, a4, a5, a6, a7, a8, a9]
  refine ⟨fun c i => (KBlock.ins m c).kX1 (i 0) (i 1), fun c i => (KBlock.ins m c).kQ (i 0) (i 1),
    fun c i => (KBlock.ins m c).kK (i 0) (i 1), fun c i => (KBlock.ins m c).kV (i 0) (i 1), ?_, ?_⟩
  · refine (θ_run _ _ _).mono (fun r h c => ?_) (KernelIdeal.Value.run_blocks m g)
    obtain ⟨h0, h1, h2, h3, hargs⟩ := h c
    exact ⟨h0.trans (KBlock.arr10 m c), h1.trans (KBlock.arr11 m c), h2.trans (KBlock.arr12 m c),
      h3.trans (KBlock.arr13 m c), hargs⟩
  · refine (θ_run _ _ _).mono (fun r h c => ?_) (ReferenceIdeal.Value.run_blocks m' g')
    obtain ⟨h0, h1, h2, h3, hargs⟩ := h c
    refine ⟨h0.trans ((RBlock.arr10 m' c).trans ?_), h1.trans ((RBlock.arr11 m' c).trans ?_),
      h2.trans ((RBlock.arr12 m' c).trans ?_), h3.trans ((RBlock.arr13 m' c).trans ?_), hargs⟩
    · rw [hins]; funext i; exact (congrFun (Ins.x1_same (ok m hpre c) _) _).symm
    · rw [hins]; funext i; exact (Ins.q_same (ok m hpre c) _ _).symm
    · rw [hins]; funext i; exact (Ins.k_same (ok m hpre c) _ _).symm
    · rw [hins]; funext i; exact (Ins.v_same (ok m hpre c) _ _).symm

end Cert.Qkv

end
-- ==== Proof.MlpRun.lean ====
/-
  The two-call program's run with its results named: the three result arrays end as the second call's windows leave
  them, over what the first call's windows left.
-/
module

public import proofs.«01_k».proof.Proof.Gen.MlpIdeal.Frame

@[expose] public section

set_option maxRecDepth 16384

noncomputable section

namespace Cert.MlpRun

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every fair run ends with the three results holding what the second call's windows leave, and the arguments as
    launched. -/
theorem run : θ_run defs (onTc (τ := τ) (main (F := F))) ⟨m, fun _ => 0, ρ⟩ (fun r => ∀ c : Dev nD,
      r.2.mem ((c.tc : Thread nD τ).loc main_v3_0) = (dat1 (V3 m ρ) c).arrAt 5 cfg1.N
      ∧ r.2.mem ((c.tc : Thread nD τ).loc main_v3_1) = (dat1 (V3 m ρ) c).arrAt 6 cfg1.N
      ∧ r.2.mem ((c.tc : Thread nD τ).loc main_v3_2) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v3_0 (by decide))).trans (W4_arr m ρ c 5),
       (h c _ (mem_uc main_v3_1 (by decide))).trans (W4_arr m ρ c 6),
       (h c _ (mem_uc main_v3_2 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.MlpRun

end
-- ==== Proof.MlpRows.lean ====
/-
  The row functions both sides of the feed-forward claim are read as, over the extended reals, and their equality.
  Nothing here names a program.
-/
module

public import proofs.«01_k».proof.Proof.Rows

@[expose] public section

noncomputable section

namespace Cert.MlpRows

open Idealize.ShloMosaic Cert.Rows

/-- The absolute value, as both programs take it. -/
def mag (v : EReal) : EReal := max v (-v)

/-- The greatest entry of a row, folded from `-∞`. -/
def rowMax {n : Nat} (f : Fin n → EReal) : EReal := Finset.univ.fold max (Ideal.ofBits .f32 0xFF800000#32) f

/-- The scale of a row whose greatest magnitude is `a`: `a / 448`, and 1 for a zero row. -/
def scale (a : EReal) : EReal := if a = 0 then 1 else Ideal.div a (Ideal.ofBits .f32 0x43E00000#32)

/-- The gated unit: `a · σ(a) · b`. -/
def glu (a b : EReal) : EReal := a * Ideal.logistic a * b

theorem ofBits_neg_inf : Ideal.ofBits .f32 0xFF800000#32 = ⊥ := by
  simp [Ideal.ofBits, Ideal.ieee]

theorem ofBits_448 : Ideal.ofBits .f32 0x43E00000#32 = ((448 : ℝ) : EReal) := by
  simp [Ideal.ofBits, Ideal.ieee, -EReal.coe_mul]; norm_num

/-- A row's greatest entry is below a bound exactly if every entry is. -/
theorem rowMax_le {n : Nat} (f : Fin n → EReal) (b : EReal) : rowMax f ≤ b ↔ ∀ k, f k ≤ b := by
  unfold rowMax
  rw [Finset.fold_max_le, ofBits_neg_inf]
  simp

theorem mag_nonneg (v : EReal) : 0 ≤ mag v := by
  unfold mag
  rcases le_total 0 v with h | h
  · exact le_max_of_le_left h
  · exact le_max_of_le_right (by simpa using EReal.neg_le_neg_iff.mpr h)

/-- The scale of a nonnegative maximum is never zero. -/
theorem scale_ne_zero {a : EReal} (h : 0 ≤ a) : scale a ≠ 0 := by
  unfold scale
  split
  · exact one_ne_zero
  · next h0 =>
    have h448 : (((448 : ℝ) : EReal)) ≠ 0 := by norm_num
    rw [ofBits_448, div_eq h448, ← EReal.coe_inv]
    exact (EReal.mul_pos (lt_of_le_of_ne h (Ne.symm h0)) (by norm_num)).ne'

/-- `A` is the greatest of 0 and the magnitudes of the row `H` at the columns below `512 n` of lane `l`, the lanes
    repeating every 128 columns. -/
def Above (H : Fin 7168 → EReal) (l : Fin 128) (n : Nat) (A : EReal) : Prop :=
  ∀ b, A ≤ b ↔ 0 ≤ b ∧ ∀ j : Fin 7168, j.val < 512 * n → j.val % 128 = l.val → mag (H j) ≤ b

theorem above_zero (H : Fin 7168 → EReal) (l : Fin 128) : Above H l 0 0 := by
  intro b
  refine ⟨fun h => ⟨h, fun j hj => absurd hj (by omega)⟩, fun h => h.1⟩

/-- One block of 512 columns taken into the running maximum of a lane. -/
theorem above_step {H : Fin 7168 → EReal} {l : Fin 128} {n : Nat} {A : EReal} (hn : n < 14) (h : Above H l n A)
    {e0 e1 e2 e3 : EReal} (h0 : e0 = mag (H ⟨512 * n + l.val, by omega⟩))
    (h1 : e1 = mag (H ⟨512 * n + (128 + l.val), by omega⟩)) (h2 : e2 = mag (H ⟨512 * n + (256 + l.val), by omega⟩))
    (h3 : e3 = mag (H ⟨512 * n + (384 + l.val), by omega⟩)) :
    Above H l (n + 1) (max A (max (max (max e0 e1) e2) e3)) := by
  subst h0 h1 h2 h3
  intro b
  rw [max_le_iff, max_le_iff, max_le_iff, max_le_iff, h b]
  constructor
  · rintro ⟨⟨hb, hA⟩, ⟨⟨b0, b1⟩, b2⟩, b3⟩
    refine ⟨hb, fun j hj hl => ?_⟩
    by_cases hj' : j.val < 512 * n
    · exact hA j hj' hl
    · have hc : j.val = 512 * n + l.val ∨ j.val = 512 * n + (128 + l.val) ∨ j.val = 512 * n + (256 + l.val)
          ∨ j.val = 512 * n + (384 + l.val) := by omega
      obtain ⟨jv, jlt⟩ := j
      rcases hc with e | e | e | e <;> (dsimp only at e; subst e; assumption)
  · rintro ⟨hb, hA⟩
    refine ⟨⟨hb, fun j hj hl => hA j (by omega) hl⟩, ⟨⟨?_, ?_⟩, ?_⟩, ?_⟩ <;>
      exact hA _ (by dsimp only; omega) (by dsimp only; omega)

/-- The greatest over the lanes of the running maxima after all 14 blocks is the row's greatest magnitude. -/
theorem above_all {H : Fin 7168 → EReal} {A : Fin 128 → EReal} (h : ∀ l, Above H l 14 (A l)) :
    rowMax A = rowMax (fun j => mag (H j)) := by
  refine eq_of_forall_ge_iff fun b => ?_
  rw [rowMax_le, rowMax_le]
  constructor
  · intro hb j
    exact ((h ⟨j.val % 128, Nat.mod_lt _ (by decide)⟩ b).mp (hb _)).2 j (by omega) rfl
  · intro hb l
    exact (h l b).mpr ⟨(mag_nonneg _).trans (hb 0), fun j _ _ => hb j⟩

/-- The feed-forward calls' operands as plain functions. -/
structure Ins where
  x : Fin 2304 → Fin 4096 → EReal
  res : Fin 2304 → Fin 4096 → EReal
  W : Fin 4096 → Fin 14336 → EReal
  ws : Fin 2 → EReal
  sx : EReal
  Wd : Fin 7168 → Fin 4096 → EReal
  wd : EReal

namespace Ins

variable (I : Ins)

/-- The packed product at a row and a packed column. -/
def dot (R : Fin 2304) (j : Fin 14336) : EReal := ∑ k, I.x R k * I.W k j

/-- A hidden value as the kernel computes it: the two scales multiplied first. -/
def kH (R : Fin 2304) (j : Fin 7168) : EReal :=
  glu (I.dot R ⟨j.val, by omega⟩ * (I.sx * I.ws 0)) (I.dot R ⟨7168 + j.val, by omega⟩ * (I.sx * I.ws 1))

/-- A hidden value as the reference writes it: one scale after the other. -/
def rH (R : Fin 2304) (j : Fin 7168) : EReal :=
  glu (I.dot R ⟨j.val, by omega⟩ * I.sx * I.ws 0) (I.dot R ⟨7168 + j.val, by omega⟩ * I.sx * I.ws 1)

theorem h_same (R : Fin 2304) : I.rH R = I.kH R := by
  funext j
  unfold rH kH
  rw [mul_assoc, mul_assoc]

/-- A row's scale. -/
def s (R : Fin 2304) : EReal := scale (rowMax fun j => mag (I.kH R j))

theorem s_ne_zero (R : Fin 2304) : I.s R ≠ 0 :=
  scale_ne_zero ((mag_nonneg (I.kH R 0)).trans ((rowMax_le (fun j => mag (I.kH R j)) _).mp le_rfl 0))

/-- A code as the kernel computes it: times the scale's reciprocal. -/
def kC (R : Fin 2304) (j : Fin 7168) : EReal := clip (I.kH R j * Ideal.div 1 (I.s R))

/-- A code as the reference writes it: the hidden value over the scale. -/
def rC (R : Fin 2304) (j : Fin 7168) : EReal := clip (Ideal.div (I.kH R j) (I.s R))

theorem c_same (R : Fin 2304) (j : Fin 7168) : I.rC R j = I.kC R j := by
  unfold rC kC
  rw [div_eq (I.s_ne_zero R), div_eq (I.s_ne_zero R), one_mul]

/-- A result value as the kernel computes it: the two scales multiplied first. -/
def kY (R : Fin 2304) (n : Fin 4096) : EReal := I.res R n + (∑ j, I.kC R j * I.Wd j n) * (I.s R * I.wd)

/-- A result value as the reference writes it: one scale after the other. -/
def rY (R : Fin 2304) (n : Fin 4096) : EReal := I.res R n + (∑ j, I.rC R j * I.Wd j n) * I.s R * I.wd

theorem y_same (R : Fin 2304) (n : Fin 4096) : I.rY R n = I.kY R n := by
  unfold rY kY
  simp only [c_same]
  rw [mul_assoc]

end Ins

end Cert.MlpRows

end
-- ==== Proof.MlpPay.lean ====
/-
  The two feed-forward bodies' values read at an index, over the extended reals.
-/
module

public import proofs.«01_k».proof.Proof.Gen.MlpIdeal.Skeleton
public import proofs.«01_k».proof.Proof.MlpRows
public import Idealize.ShloMosaic.Lib.Pipeline.ValueKit

@[expose] public section

set_option maxRecDepth 16384

noncomputable section

namespace Cert.MlpPay

open Cert.MlpIdeal Cert.MlpIdeal.Gen Cert.Rows Cert.MlpRows Idealize.ShloMosaic

/-- The running maxima start at zero. -/
theorem zero_apply (r : Fin 2304) (l : Fin 128) : k0_pay5 (F := Ideal) (ix2 r l) = 0 := by
  pointwise [k0_pay5]

/-- A block of hidden values, at an index. -/
theorem pay8_apply (v2 v5 : Ideal .f32) (x : Vec Ideal S256x4096 .fp8e4m3) (g u : Vec Ideal S4096x512 .fp8e4m3)
    (r : Fin 256) (k : Fin 512) :
    k0_pay8 v2 v5 x g u (ix2 r k)
      = glu ((∑ i : Fin 4096, x (ix2 r i) * g (ix2 i k)) * v2) ((∑ i : Fin 4096, x (ix2 r i) * u (ix2 i k)) * v5) := by
  pointwise [k0_pay8]
  rfl

/-- The update of a block of running maxima by a block of hidden values, at an index. -/
theorem pay11_apply (h : FVec Ideal S256x512 .f32) (a : Vec Ideal S256x128 .f32) (r : Fin 256) (l : Fin 128) :
    k0_pay11 h a (ix2 r l)
      = max (a (ix2 r l)) (max (max (max (mag (h (ix2 r ⟨l.val, by omega⟩))) (mag (h (ix2 r ⟨128 + l.val, by omega⟩))))
          (mag (h (ix2 r ⟨256 + l.val, by omega⟩)))) (mag (h (ix2 r ⟨384 + l.val, by omega⟩)))) := by
  pointwise [k0_pay11]
  rfl

/-- A block of row scales, at an index. -/
theorem scale_apply (a : Vec Ideal S192x128 .f32) (r : Fin 192) :
    k1_pay5 a (ix2 r 0) = scale (rowMax fun l => a (ix2 r l)) := by
  pointwise [k1_pay5]
  rfl

/-- A block of codes, at an index. -/
theorem codes_apply (a : Vec Ideal S192x128 .f32) (h : Vec Ideal S192x7168 .f32) (r : Fin 192) (k : Fin 7168) :
    k1_pay6 a h (ix2 r k) = clip (h (ix2 r k) * Ideal.div 1 (k1_pay5 a (ix2 r 0))) := by
  unfold k1_pay6
  generalize k1_pay5 a = s
  pointwise []
  rfl

/-- A block of the result, at an index. -/
theorem pay2_apply (c : FVec Ideal S192x7168 .fp8e4m3) (f : FVec Ideal S192x1 .f32) (res : Vec Ideal S192x512 .f32)
    (w : Vec Ideal S7168x512 .fp8e4m3) (r : Fin 192) (k : Fin 512) :
    k1_pay2 c f res w (ix2 r k) = res (ix2 r k) + (∑ j : Fin 7168, c (ix2 r j) * w (ix2 j k)) * f (ix2 r 0) := by
  pointwise [k1_pay2]

/-- The reloaded codes, at an index. -/
theorem pay7_apply (c : Vec Ideal S192x7168 .fp8e4m3) (r : Fin 192) (k : Fin 7168) :
    k1_pay7 c (ix2 r k) = c (ix2 r k) := by
  pointwise [k1_pay7]

/-- The product of a row's two scales, at an index. -/
theorem pay8'_apply (a : Vec Ideal S192x128 .f32) (w : Elt Ideal .f32) (r : Fin 192) :
    k1_pay8 a w (ix2 r 0) = k1_pay5 a (ix2 r 0) * w := by
  unfold k1_pay8
  generalize k1_pay5 a = s
  pointwise []

end Cert.MlpPay

end
-- ==== Proof.MlpGu.lean ====
/-
  The first feed-forward call's blocks and stores: what each grid point reads, and the array of hidden values.
-/
module

public import proofs.«01_k».proof.Proof.Gen.MlpIdeal.Frame
public import proofs.«01_k».proof.Proof.MlpPay
public import Idealize.ShloMosaic.Lib.Pipeline.ValueKit
public import Idealize.ShloMosaic.Lib.Pipeline.ReadBack

@[expose] public section

set_option maxRecDepth 16384

noncomputable section

namespace Cert.MlpGu

open Cert.MlpIdeal Cert.MlpIdeal.Gen Cert.Rows Cert.MlpRows Cert.MlpPay Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The operands as a call finds them. -/
def ins (c : Dev nD) : MlpRows.Ins where
  x R k := V c main_arg0 (ix2 R k)
  res R k := V c main_arg1 (ix2 R k)
  W k j := V c main_arg2 (ix2 k j)
  ws i := V c main_arg3 (ix1 i)
  sx := V c main_v0 (ix1 0)
  Wd k j := V c main_arg5 (ix2 k j)
  wd := V c main_v2 (ix1 0)

theorem idx_facts : ∀ t : Fin cfg0.N, win0_0.index t = ![0] ∧ win0_1.index t = ![0] ∧ win0_2.index t = ![0, 0]
    ∧ win0_3.index t = ![0, t.val] ∧ win0_4.index t = ![0, 14 + t.val] ∧ win0_5.index t = ![0, t.val]
    ∧ win0_6.index t = ![0, 0] :=
  (by decide +kernel : ∀ t : Fin grid0.N, _)

theorem lt14 (t : Fin cfg0.N) : t.val < 14 := lt_of_lt_of_eq t.isLt N_0

/-- The column of the hidden values a block's column is. -/
def col (t : Fin cfg0.N) (k : Fin 512) : Fin 7168 := ⟨512 * t.val + k.val, by have := lt14 t; omega⟩

/-- The activation window holds the whole array at every point. -/
theorem blk2 (c : Dev nD) (t : Fin cfg0.N) (r : Fin 2304) (k : Fin 4096) :
    iblk0 V c 2 t (ix2 r k) = (ins V c).x r k := by
  show _ = V c main_arg0 (ix2 r k)
  blk_ext [iblk0, idx_facts t]

/-- The gate weights' block. -/
theorem blk3 (c : Dev nD) (t : Fin cfg0.N) (i : Fin 4096) (k : Fin 512) :
    iblk0 V c 3 t (ix2 i k) = (ins V c).W i ⟨(col t k).val, by omega⟩ := by
  show _ = V c main_arg2 (ix2 i ⟨(col t k).val, by omega⟩)
  unfold col
  blk_ext [iblk0, idx_facts t]

/-- The up weights' block: the same array, 14 blocks further. -/
theorem blk4 (c : Dev nD) (t : Fin cfg0.N) (i : Fin 4096) (k : Fin 512) :
    iblk0 V c 4 t (ix2 i k) = (ins V c).W i ⟨7168 + (col t k).val, by omega⟩ := by
  show _ = V c main_arg2 (ix2 i ⟨7168 + (col t k).val, by omega⟩)
  unfold col
  blk_ext [iblk0, idx_facts t]

theorem ld0 (c : Dev nD) (t : Fin cfg0.N) (h) :
    View.ld (iblk0 V c 0 t) (Rect.unit ![0] ![1] inb_S1_S1_0) (Shape.Idx.first h) = (ins V c).sx := by
  show _ = V c main_v0 (ix1 0)
  rw [View.ld_apply]
  blk_point [iblk0, idx_facts t]

theorem ld1 (c : Dev nD) (t : Fin cfg0.N) (i : Fin 2) (hi) (h) :
    View.ld (iblk0 V c 1 t) (Rect.unit ![i.val] ![1] hi) (Shape.Idx.first h) = (ins V c).ws i := by
  show _ = V c main_arg3 (ix1 i)
  rw [View.ld_apply]
  blk_point [iblk0, idx_facts t]
  rfl

/-- The block of hidden values a point computes for the rows from `B` on, at an index. -/
theorem h_block (c : Dev nD) (t : Fin cfg0.N) {B : Nat} (hB : B + 256 ≤ 2304) (hi) (p0 p1 p2 p3) (r : Fin 256) (k : Fin 512) :
    k0_pay8 (F := Ideal)
      (k0_pay3 (View.ld (iblk0 V c 0 t) (Rect.unit ![0] ![1] inb_S1_S1_0) (Shape.Idx.first p0))
        (View.ld (iblk0 V c 1 t) (Rect.unit ![0] ![1] inb_S2_S1_0) (Shape.Idx.first p1)))
      (k0_pay4 (View.ld (iblk0 V c 0 t) (Rect.unit ![0] ![1] inb_S1_S1_0) (Shape.Idx.first p2))
        (View.ld (iblk0 V c 1 t) (Rect.unit ![1] ![1] inb_S2_S1_1) (Shape.Idx.first p3)))
      (View.ld (iblk0 V c 2 t) (Rect.unit ![B, 0] ![256, 4096] hi)) (iblk0 V c 3 t) (iblk0 V c 4 t) (ix2 r k)
      = (ins V c).kH ⟨B + r.val, by omega⟩ (col t k) := by
  have e3 : k0_pay3 (F := Ideal) (View.ld (iblk0 V c 0 t) (Rect.unit ![0] ![1] inb_S1_S1_0) (Shape.Idx.first p0))
      (View.ld (iblk0 V c 1 t) (Rect.unit ![0] ![1] inb_S2_S1_0) (Shape.Idx.first p1)) = (ins V c).sx * (ins V c).ws 0 := by
    rw [← ld0 V c t p0, ← ld1 V c t 0 inb_S2_S1_0 p1]; rfl
  have e4 : k0_pay4 (F := Ideal) (View.ld (iblk0 V c 0 t) (Rect.unit ![0] ![1] inb_S1_S1_0) (Shape.Idx.first p2))
      (View.ld (iblk0 V c 1 t) (Rect.unit ![1] ![1] inb_S2_S1_1) (Shape.Idx.first p3)) = (ins V c).sx * (ins V c).ws 1 := by
    rw [← ld0 V c t p2, ← ld1 V c t 1 inb_S2_S1_1 p3]; rfl
  have ex : ∀ i : Fin 4096, View.ld (iblk0 V c 2 t) (Rect.unit ![B, 0] ![256, 4096] hi) (ix2 r i)
      = (ins V c).x ⟨B + r.val, by omega⟩ i := by
    intro i
    rw [View.ld_apply, ← blk2 V c t]
    congr 1
    blk_ext
    · rw [Rect.idx_unit_val]; rfl
    · rw [Rect.idx_unit_val]; exact Nat.zero_add _
  rw [e3, e4, pay8_apply]
  simp only [ex, blk3, blk4]
  rfl

/-- A store of hidden values, at an index of its piece, is the hidden value of the row the piece puts it at. -/
theorem h_piece (c : Dev nD) (t : Fin cfg0.N) {B : Nat} (hB : B + 256 ≤ 2304) (hi) (p0 p1 p2 p3) (x : S256x512.Idx)
    (r : Fin 2304) (k : Fin 512) (hr : r.val = B + (x 0).val) (hk : k.val = (x 1).val) :
    k0_pay8 (F := Ideal)
      (k0_pay3 (View.ld (iblk0 V c 0 t) (Rect.unit ![0] ![1] inb_S1_S1_0) (Shape.Idx.first p0))
        (View.ld (iblk0 V c 1 t) (Rect.unit ![0] ![1] inb_S2_S1_0) (Shape.Idx.first p1)))
      (k0_pay4 (View.ld (iblk0 V c 0 t) (Rect.unit ![0] ![1] inb_S1_S1_0) (Shape.Idx.first p2))
        (View.ld (iblk0 V c 1 t) (Rect.unit ![1] ![1] inb_S2_S1_1) (Shape.Idx.first p3)))
      (View.ld (iblk0 V c 2 t) (Rect.unit ![B, 0] ![256, 4096] hi)) (iblk0 V c 3 t) (iblk0 V c 4 t) x
      = (ins V c).kH r (col t k) := by
  obtain ⟨a, b, rfl⟩ : ∃ (a : Fin 256) (b : Fin 512), x = ix2 a b := ⟨x 0, x 1, by blk_ext⟩
  obtain rfl : k = b := Fin.ext hk
  rw [h_block V c t hB hi p0 p1 p2 p3 a k]
  exact congrArg (fun r => (ins V c).kH r (col t k)) (Fin.ext hr.symm)

/-- After the call its first result holds the hidden values. -/
theorem arr5 (c : Dev nD) : (dat0 V c).arrAt 5 cfg0.N = fun i => (ins V c).kH (i 0) (i 1) := by
  refine (dat0 V c).arrAt_eq_of_covers 5 _ (by decide +kernel) fun t hf y => ?_
  blk_simp
  rw [after0_5]
  obtain ⟨r, k, rfl⟩ : ∃ (r : Fin 2304) (k : Fin 512), y = ix2 r k := ⟨y 0, y 1, by blk_ext⟩
  have e : ((View.whole main_v1_0).slice (win0_5.rect t)).emb (ix2 r k) = ix2 r (col t k) := by
    unfold col; blk_ext [idx_facts t]
  rw [e]
  by_cases h0 : t.val % 14 = 0
  · rw [outsAt0_A V c t h0]
    dsimp only
    frame_out
    canon_tiles x h
    · exact h_piece V c t (B := 2048) (by omega) _ _ _ _ _ x r k h0 h1
    · exact h_piece V c t (B := 1792) (by omega) _ _ _ _ _ x r k h0 h1
    · exact h_piece V c t (B := 1536) (by omega) _ _ _ _ _ x r k h0 h1
    · exact h_piece V c t (B := 1280) (by omega) _ _ _ _ _ x r k h0 h1
    · exact h_piece V c t (B := 1024) (by omega) _ _ _ _ _ x r k h0 h1
    · exact h_piece V c t (B := 768) (by omega) _ _ _ _ _ x r k h0 h1
    · exact h_piece V c t (B := 512) (by omega) _ _ _ _ _ x r k h0 h1
    · exact h_piece V c t (B := 256) (by omega) _ _ _ _ _ x r k h0 h1
    · exact h_piece V c t (B := 0) (by omega) _ _ _ _ _ x r k (h0.trans (Nat.zero_add _).symm) h1
  · rw [outsAt0_B V c t h0]
    dsimp only
    frame_out
    canon_tiles x h
    · exact h_piece V c t (B := 2048) (by omega) _ _ _ _ _ x r k h0 h1
    · exact h_piece V c t (B := 1792) (by omega) _ _ _ _ _ x r k h0 h1
    · exact h_piece V c t (B := 1536) (by omega) _ _ _ _ _ x r k h0 h1
    · exact h_piece V c t (B := 1280) (by omega) _ _ _ _ _ x r k h0 h1
    · exact h_piece V c t (B := 1024) (by omega) _ _ _ _ _ x r k h0 h1
    · exact h_piece V c t (B := 768) (by omega) _ _ _ _ _ x r k h0 h1
    · exact h_piece V c t (B := 512) (by omega) _ _ _ _ _ x r k h0 h1
    · exact h_piece V c t (B := 256) (by omega) _ _ _ _ _ x r k h0 h1
    · exact h_piece V c t (B := 0) (by omega) _ _ _ _ _ x r k (h0.trans (Nat.zero_add _).symm) h1

end Cert.MlpGu

end
-- ==== Proof.MlpAmax.lean ====
/-
  The first feed-forward call's running maxima: after the last grid point each lane holds the greatest magnitude of
  its columns.
-/
module

public import proofs.«01_k».proof.Proof.MlpGu

@[expose] public section

set_option maxRecDepth 16384

noncomputable section

namespace Cert.MlpGu

open Cert.MlpIdeal Cert.MlpIdeal.Gen Cert.Rows Cert.MlpRows Cert.MlpPay Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The running maximum `a` of a row and lane with a point's block of hidden values taken in. -/
def upd (c : Dev nD) (t : Fin cfg0.N) (a : EReal) (r : Fin 2304) (l : Fin 128) : EReal :=
  max a (max (max (max (mag ((ins V c).kH r (col t ⟨l.val, by omega⟩))) (mag ((ins V c).kH r (col t ⟨128 + l.val, by omega⟩))))
    (mag ((ins V c).kH r (col t ⟨256 + l.val, by omega⟩)))) (mag ((ins V c).kH r (col t ⟨384 + l.val, by omega⟩))))

/-- A store of running maxima, at an index of its piece, updates the value `a` had there. -/
theorem a_piece (c : Dev nD) (t : Fin cfg0.N) (a : Vec Ideal S2304x128 .f32) {B : Nat} (hB : B + 256 ≤ 2304) (hi hj)
    (p0 p1 p2 p3) (x : S256x128.Idx) (r : Fin 2304) (l : Fin 128) (hr : r.val = B + (x 0).val) (hl : l.val = (x 1).val) :
    k0_pay11 (k0_pay8 (F := Ideal)
      (k0_pay3 (View.ld (iblk0 V c 0 t) (Rect.unit ![0] ![1] inb_S1_S1_0) (Shape.Idx.first p0))
        (View.ld (iblk0 V c 1 t) (Rect.unit ![0] ![1] inb_S2_S1_0) (Shape.Idx.first p1)))
      (k0_pay4 (View.ld (iblk0 V c 0 t) (Rect.unit ![0] ![1] inb_S1_S1_0) (Shape.Idx.first p2))
        (View.ld (iblk0 V c 1 t) (Rect.unit ![1] ![1] inb_S2_S1_1) (Shape.Idx.first p3)))
      (View.ld (iblk0 V c 2 t) (Rect.unit ![B, 0] ![256, 4096] hi)) (iblk0 V c 3 t) (iblk0 V c 4 t))
      (View.ld a (Rect.unit ![B, 0] ![256, 128] hj)) x
      = upd V c t (a (ix2 r l)) r l := by
  obtain ⟨r', l', rfl⟩ : ∃ (r' : Fin 256) (l' : Fin 128), x = ix2 r' l' := ⟨x 0, x 1, by blk_ext⟩
  obtain rfl : l = l' := Fin.ext hl
  have hB' : B + r'.val < 2304 := Nat.lt_of_lt_of_le (Nat.add_lt_add_left r'.isLt B) hB
  obtain rfl : r = ⟨B + r'.val, hB'⟩ := Fin.ext hr
  have ea : View.ld a (Rect.unit ![B, 0] ![256, 128] hj) (ix2 r' l) = a (ix2 ⟨B + r'.val, hB'⟩ l) := by
    rw [View.ld_apply]
    congr 1
    blk_ext
    · rw [Rect.idx_unit_val]; rfl
    · rw [Rect.idx_unit_val]; exact Nat.zero_add _
  rw [pay11_apply, ea]
  simp only [h_block V c t hB hi p0 p1 p2 p3]
  rfl

/-- Stores that cover an index decide what it holds, whatever was stored before them. -/
theorem canon_drop {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine ih ?_
      obtain ⟨q, hq, hy⟩ := h
      rcases List.mem_cons.mp hq with rfl | hq
      · exact absurd hy hm
      · exact ⟨q, hq, hy⟩

/-- At the first point the maxima are updated from zero. -/
theorem amax_first (c : Dev nD) (t : Fin cfg0.N) (hz : t.val % 14 = 0) (r : Fin 2304) (l : Fin 128) :
    (outsAt0 V c t.val t.isLt).2 (ix2 r l) = upd V c t (k0_pay5 (F := Ideal) (ix2 r l)) r l := by
  rw [outsAt0_A V c t hz]
  dsimp only
  frame_open
  simp (decide := true) only [↓View.readCov_skip, ↓View.readCov_fill]
  frame_out
  refine (canon_drop [_, _, _, _, _, _, _, _, _] _ _ ?_).trans ?_
  · exact View.cover_of_tiled_head _ _ _ rfl _
  canon_tiles x h
  · exact a_piece V c t (k0_pay5 (F := Ideal)) (B := 2048) (by omega) _ _ _ _ _ _ x r l h0 h1
  · exact a_piece V c t (k0_pay5 (F := Ideal)) (B := 1792) (by omega) _ _ _ _ _ _ x r l h0 h1
  · exact a_piece V c t (k0_pay5 (F := Ideal)) (B := 1536) (by omega) _ _ _ _ _ _ x r l h0 h1
  · exact a_piece V c t (k0_pay5 (F := Ideal)) (B := 1280) (by omega) _ _ _ _ _ _ x r l h0 h1
  · exact a_piece V c t (k0_pay5 (F := Ideal)) (B := 1024) (by omega) _ _ _ _ _ _ x r l h0 h1
  · exact a_piece V c t (k0_pay5 (F := Ideal)) (B := 768) (by omega) _ _ _ _ _ _ x r l h0 h1
  · exact a_piece V c t (k0_pay5 (F := Ideal)) (B := 512) (by omega) _ _ _ _ _ _ x r l h0 h1
  · exact a_piece V c t (k0_pay5 (F := Ideal)) (B := 256) (by omega) _ _ _ _ _ _ x r l h0 h1
  · exact a_piece V c t (k0_pay5 (F := Ideal)) (B := 0) (by omega) _ _ _ _ _ _ x r l (h0.trans (Nat.zero_add _).symm) h1

/-- At every later point they are updated from what the point before left. -/
theorem amax_next (c : Dev nD) (t : Fin cfg0.N) (hz : ¬ t.val % 14 = 0) (r : Fin 2304) (l : Fin 128) :
    (outsAt0 V c t.val t.isLt).2 (ix2 r l)
      = upd V c t ((outsAt0 V c (t.val - 1) (Nat.lt_of_le_of_lt (Nat.sub_le _ _) t.isLt)).2 (ix2 r l)) r l := by
  rw [outsAt0_B V c t hz]
  dsimp only
  frame_out
  canon_tiles x h
  · exact a_piece V c t _ (B := 2048) (by omega) _ _ _ _ _ _ x r l h0 h1
  · exact a_piece V c t _ (B := 1792) (by omega) _ _ _ _ _ _ x r l h0 h1
  · exact a_piece V c t _ (B := 1536) (by omega) _ _ _ _ _ _ x r l h0 h1
  · exact a_piece V c t _ (B := 1280) (by omega) _ _ _ _ _ _ x r l h0 h1
  · exact a_piece V c t _ (B := 1024) (by omega) _ _ _ _ _ _ x r l h0 h1
  · exact a_piece V c t _ (B := 768) (by omega) _ _ _ _ _ _ x r l h0 h1
  · exact a_piece V c t _ (B := 512) (by omega) _ _ _ _ _ _ x r l h0 h1
  · exact a_piece V c t _ (B := 256) (by omega) _ _ _ _ _ _ x r l h0 h1
  · exact a_piece V c t _ (B := 0) (by omega) _ _ _ _ _ _ x r l (h0.trans (Nat.zero_add _).symm) h1

/-- An update extends what the running maximum covers by a block of columns. -/
theorem above_upd (c : Dev nD) (t : Fin cfg0.N) (a : EReal) (r : Fin 2304) (l : Fin 128)
    (h : Above ((ins V c).kH r) l t.val a) : Above ((ins V c).kH r) l (t.val + 1) (upd V c t a r l) :=
  above_step (lt14 t) h rfl rfl rfl rfl

/-- After each point a lane's running maximum covers the columns so far. -/
theorem above_outs (c : Dev nD) (r : Fin 2304) (l : Fin 128) : ∀ (n : Nat) (hn : n < cfg0.N),
    Above ((ins V c).kH r) l (n + 1) ((outsAt0 V c n hn).2 (ix2 r l)) := by
  intro n
  induction n with
  | zero =>
    intro hn
    rw [amax_first V c ⟨0, hn⟩ rfl, zero_apply]
    exact above_upd V c ⟨0, hn⟩ 0 r l (above_zero _ l)
  | succ n ih =>
    intro hn
    have h14 := lt14 ⟨n + 1, hn⟩
    rw [amax_next V c ⟨n + 1, hn⟩ (by dsimp only at h14 ⊢; omega)]
    exact above_upd V c ⟨n + 1, hn⟩ _ r l (ih (Nat.lt_of_succ_lt hn))

/-- After the call its second result holds, lane by lane, the greatest magnitudes of each row. -/
theorem above_arr6 (c : Dev nD) (r : Fin 2304) (l : Fin 128) :
    Above ((ins V c).kH r) l 14 ((dat0 V c).arrAt 6 cfg0.N (ix2 r l)) := by
  have e : (dat0 V c).arrAt 6 cfg0.N = fun i => (outsAt0 V c t0_13.val t0_13.isLt).2 i := by
    refine (dat0 V c).arrAt_eq_of_after_last 6 t0_13 (by decide +kernel) _ fun j => ?_
    blk_simp
    rw [after0_6]
  rw [e]
  exact above_outs V c r l 13 t0_13.isLt

end Cert.MlpGu

end
-- ==== Proof.MlpDown.lean ====
/-
  The second feed-forward call: what it leaves in its three result arrays, from the operands and the hidden values it
  finds.
-/
module

public import proofs.«01_k».proof.Proof.MlpGu

@[expose] public section

set_option maxRecDepth 16384

noncomputable section

namespace Cert.MlpGu

open Cert.MlpIdeal Cert.MlpIdeal.Gen Cert.Rows Cert.MlpRows Cert.MlpPay Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx_down : ∀ t : Fin cfg1.N, win1_0.index t = ![0] ∧ win1_1.index t = ![t.val, 0] ∧ win1_2.index t = ![t.val, 0]
    ∧ win1_3.index t = ![t.val, 0] ∧ win1_4.index t = ![0, 0] ∧ win1_5.index t = ![t.val, 0]
    ∧ win1_6.index t = ![t.val, 0] ∧ win1_7.index t = ![t.val, 0] :=
  (by decide +kernel : ∀ t : Fin grid1.N, _)

theorem lt12 (t : Fin cfg1.N) : t.val < 12 := lt_of_lt_of_eq t.isLt N_1

/-- The row of the arrays a block's row is. -/
def row (t : Fin cfg1.N) (r : Fin 192) : Fin 2304 := ⟨192 * t.val + r.val, by have := lt12 t; omega⟩

/-- The hidden values as the call finds them. -/
abbrev hid (c : Dev nD) (R : Fin 2304) (j : Fin 7168) : EReal := V c main_v1_0 (ix2 R j)

/-- The lanes' maxima as the call finds them. -/
abbrev lane (c : Dev nD) (R : Fin 2304) (l : Fin 128) : EReal := V c main_v1_1 (ix2 R l)

/-- A row's scale, from its lanes' maxima. -/
def dS (c : Dev nD) (R : Fin 2304) : EReal := scale (rowMax (lane V c R))

/-- A row's codes. -/
def dC (c : Dev nD) (R : Fin 2304) (j : Fin 7168) : EReal := clip (hid V c R j * Ideal.div 1 (dS V c R))

/-- A row of the output. -/
def dY (c : Dev nD) (R : Fin 2304) (n : Fin 4096) : EReal :=
  (ins V c).res R n + (∑ j, dC V c R j * (ins V c).Wd j n) * (dS V c R * (ins V c).wd)

theorem dblk1 (c : Dev nD) (t : Fin cfg1.N) (r : Fin 192) (j : Fin 7168) :
    iblk1 V c 1 t (ix2 r j) = hid V c (row t r) j := by
  unfold row
  blk_ext [iblk1, idx_down t]

theorem dblk2 (c : Dev nD) (t : Fin cfg1.N) (r : Fin 192) (l : Fin 128) :
    iblk1 V c 2 t (ix2 r l) = lane V c (row t r) l := by
  unfold row
  blk_ext [iblk1, idx_down t]

theorem dblk3 (c : Dev nD) (t : Fin cfg1.N) (r : Fin 192) (n : Fin 4096) :
    iblk1 V c 3 t (ix2 r n) = (ins V c).res (row t r) n := by
  show _ = V c main_arg1 (ix2 (row t r) n)
  unfold row
  blk_ext [iblk1, idx_down t]

theorem dblk4 (c : Dev nD) (t : Fin cfg1.N) (j : Fin 7168) (n : Fin 4096) :
    iblk1 V c 4 t (ix2 j n) = (ins V c).Wd j n := by
  show _ = V c main_arg5 (ix2 j n)
  blk_ext [iblk1, idx_down t]

theorem dld0 (c : Dev nD) (t : Fin cfg1.N) (h) :
    View.ld (iblk1 V c 0 t) (Rect.unit ![0] ![1] inb_S1_S1_0) (Shape.Idx.first h) = (ins V c).wd := by
  show _ = V c main_v2 (ix1 0)
  rw [View.ld_apply]
  blk_point [iblk1, idx_down t]

/-- The scale a point computes for a row. -/
theorem d_scale (c : Dev nD) (t : Fin cfg1.N) (r : Fin 192) :
    k1_pay5 (F := Ideal) (iblk1 V c 2 t) (ix2 r 0) = dS V c (row t r) := by
  rw [scale_apply]
  simp only [dblk2]
  rfl

/-- The codes a point computes for a row. -/
theorem d_codes (c : Dev nD) (t : Fin cfg1.N) (r : Fin 192) (j : Fin 7168) :
    k1_pay6 (F := Ideal) (iblk1 V c 2 t) (iblk1 V c 1 t) (ix2 r j) = dC V c (row t r) j := by
  rw [codes_apply, d_scale, dblk1]
  rfl

/-- After the call its first result holds the codes. -/
theorem arr1_5 (c : Dev nD) : (dat1 V c).arrAt 5 cfg1.N = fun i => dC V c (i 0) (i 1) := by
  refine (dat1 V c).arrAt_eq_of_covers 5 _ (by decide +kernel) fun t hf y => ?_
  blk_simp
  rw [after1_5]
  obtain ⟨r, k, rfl⟩ : ∃ (r : Fin 192) (k : Fin 7168), y = ix2 r k := ⟨y 0, y 1, by blk_ext⟩
  have e : ((View.whole main_v3_0).slice (win1_5.rect t)).emb (ix2 r k) = ix2 (row t r) k := by
    unfold row; blk_ext [idx_down t]
  rw [e]
  simp only [outsAt1]
  frame_out
  exact d_codes V c t r k

/-- After the call its second result holds the scales. -/
theorem arr1_6 (c : Dev nD) : (dat1 V c).arrAt 6 cfg1.N = fun i => dS V c (i 0) := by
  refine (dat1 V c).arrAt_eq_of_covers 6 _ (by decide +kernel) fun t hf y => ?_
  blk_simp
  rw [after1_6]
  obtain ⟨r, rfl⟩ : ∃ (r : Fin 192), y = ix2 r 0 := ⟨y 0, by blk_ext⟩
  have e : ((View.whole main_v3_1).slice (win1_6.rect t)).emb (ix2 r 0) = ix2 (row t r) 0 := by
    unfold row; blk_ext [idx_down t]
  rw [e]
  simp only [outsAt1]
  frame_out
  exact d_scale V c t r

/-- An output store, at an index of its piece, is the output of the column the piece puts it at. -/
theorem y_piece (c : Dev nD) (t : Fin cfg1.N) {B : Nat} (hi hj) (p0) (x : S192x512.Idx)
    (r : Fin 192) (n : Fin 4096) (hr : r.val = (x 0).val) (hn : n.val = B + (x 1).val) :
    k1_pay2 (F := Ideal) (k1_pay7 (k1_pay6 (iblk1 V c 2 t) (iblk1 V c 1 t)))
      (k1_pay8 (iblk1 V c 2 t) (View.ld (iblk1 V c 0 t) (Rect.unit ![0] ![1] inb_S1_S1_0) (Shape.Idx.first p0)))
      (View.ld (iblk1 V c 3 t) (Rect.unit ![0, B] ![192, 512] hi))
      (View.ld (iblk1 V c 4 t) (Rect.unit ![0, B] ![7168, 512] hj)) x
      = dY V c (row t r) n := by
  obtain ⟨a, b, rfl⟩ : ∃ (a : Fin 192) (b : Fin 512), x = ix2 a b := ⟨x 0, x 1, by blk_ext⟩
  obtain rfl : r = a := Fin.ext hr
  have e3 : View.ld (iblk1 V c 3 t) (Rect.unit ![0, B] ![192, 512] hi) (ix2 r b) = (ins V c).res (row t r) n := by
    rw [View.ld_apply, ← dblk3 V c t]
    congr 1
    blk_ext
    · rw [Rect.idx_unit_val]; exact Nat.zero_add _
    · rw [Rect.idx_unit_val]; exact hn.symm
  have e4 : ∀ j : Fin 7168, View.ld (iblk1 V c 4 t) (Rect.unit ![0, B] ![7168, 512] hj) (ix2 j b) = (ins V c).Wd j n := by
    intro j
    rw [View.ld_apply, ← dblk4 V c t]
    congr 1
    blk_ext
    · rw [Rect.idx_unit_val]; exact Nat.zero_add _
    · rw [Rect.idx_unit_val]; exact hn.symm
  rw [pay2_apply, pay8'_apply, d_scale, e3, dld0]
  simp only [pay7_apply, d_codes, e4]
  rfl

/-- After the call its third result holds the output. -/
theorem arr1_7 (c : Dev nD) : (dat1 V c).arrAt 7 cfg1.N = fun i => dY V c (i 0) (i 1) := by
  refine (dat1 V c).arrAt_eq_of_covers 7 _ (by decide +kernel) fun t hf y => ?_
  blk_simp
  rw [after1_7]
  obtain ⟨r, k, rfl⟩ : ∃ (r : Fin 192) (k : Fin 4096), y = ix2 r k := ⟨y 0, y 1, by blk_ext⟩
  have e : ((View.whole main_v3_2).slice (win1_7.rect t)).emb (ix2 r k) = ix2 (row t r) k := by
    unfold row; blk_ext [idx_down t]
  rw [e]
  simp only [outsAt1]
  frame_out
  canon_tiles x h
  · exact y_piece V c t (B := 3584) _ _ _ x r k h0 h1
  · exact y_piece V c t (B := 3072) _ _ _ x r k h0 h1
  · exact y_piece V c t (B := 2560) _ _ _ x r k h0 h1
  · exact y_piece V c t (B := 2048) _ _ _ x r k h0 h1
  · exact y_piece V c t (B := 1536) _ _ _ x r k h0 h1
  · exact y_piece V c t (B := 1024) _ _ _ x r k h0 h1
  · exact y_piece V c t (B := 512) _ _ _ x r k h0 h1
  · exact y_piece V c t (B := 0) _ _ _ x r k h0 (h1.trans (Nat.zero_add _).symm)

end Cert.MlpGu

end
-- ==== Proof.MlpRef.lean ====
/-
  The feed-forward reference: its body's values read at an index, and what it leaves in its three result arrays.
-/
module

public import proofs.«01_k».proof.Proof.Gen.MlpReferenceIdeal.Value
public import proofs.«01_k».proof.Proof.MlpRows
public import Idealize.ShloMosaic.Lib.Pipeline.ValueKit
public import Idealize.ShloMosaic.Lib.Pipeline.ReadBack

@[expose] public section

set_option maxRecDepth 16384

noncomputable section

namespace Cert.MlpRef

open Cert.MlpReferenceIdeal Cert.MlpReferenceIdeal.Gen Cert.Rows Cert.MlpRows Idealize.ShloMosaic Idealize.ShloMosaic.TcCoe Idealize.SL.Sem
open Idealize.ShloMosaic.Pipeline (Dat)

/-- The hidden values, at an index. -/
theorem pay2_apply (x : Vec Ideal S2304x4096 .fp8e4m3) (W : Vec Ideal S4096x14336 .fp8e4m3) (a b a' b' : Ideal .f32)
    (R : Fin 2304) (j : Fin 7168) :
    k0_pay2 (F := Ideal) x W a b a' b' (ix2 R j)
      = glu ((∑ k : Fin 4096, x (ix2 R k) * W (ix2 k ⟨j.val, by omega⟩)) * a * b)
          ((∑ k : Fin 4096, x (ix2 R k) * W (ix2 k ⟨7168 + j.val, by omega⟩)) * a' * b') := by
  pointwise [k0_pay2]
  rfl

/-- A row's greatest entry, at an index. -/
theorem max_apply (h : FVec Ideal S2304x7168 .f32) (R : Fin 2304) :
    multiReduction .maximumf [1] S2304 h 0xFF800000#32 reduces_S2304x7168_S2304 (.inl rfl) rfl (ix1 R)
      = rowMax fun j : Fin 7168 => h (ix2 R j) := by
  unfold rowMax
  pointwise []

/-- A column of scales from a column of greatest magnitudes, at an index. -/
theorem scale_apply (v : FVec Ideal S2304x1 .f32) (R : Fin 2304) :
    select (cmpf .oeq v (broadcast S2304x1 (Scalar.ofBits (F := Ideal) .f32 0x00000000#32)))
      (broadcast S2304x1 (Scalar.ofBits (F := Ideal) .f32 0x3F800000#32))
      (divf v (broadcast S2304x1 (Scalar.ofBits (F := Ideal) .f32 0x43E00000#32))) (ix2 R 0) = scale (v (ix2 R 0)) := by
  pointwise []
  rfl

/-- A vector seen as a column, at an index. -/
theorem column_apply (v : FVec Ideal S2304 .f32) (R : Fin 2304) :
    shapeCast S2304x1 v shapeCasts_S2304_S2304x1 (ix2 R 0) = v (ix1 R) := by
  pointwise []

/-- The row scales, at an index. -/
theorem pay3_apply (x : Vec Ideal S2304x4096 .fp8e4m3) (W : Vec Ideal S4096x14336 .fp8e4m3) (a b a' b' : Ideal .f32)
    (R : Fin 2304) :
    k0_pay3 (F := Ideal) x W a b a' b' (ix2 R 0)
      = scale (rowMax fun j : Fin 7168 => mag (k0_pay2 (F := Ideal) x W a b a' b' (ix2 R j))) :=
  (scale_apply _ R).trans (congrArg scale ((column_apply _ R).trans (max_apply (absf (k0_pay2 (F := Ideal) x W a b a' b')) R)))

/-- Values over their row's scale, clipped, at an index. -/
theorem quant_apply (h : FVec Ideal S2304x7168 .f32) (s : FVec Ideal S2304x1 .f32) (R : Fin 2304) (j : Fin 7168) :
    truncf (F := Ideal) .fp8e4m3 (minimumf (broadcast S2304x7168 (Scalar.ofBits (F := Ideal) .f32 0x43E00000#32))
      (maximumf (broadcast S2304x7168 (Scalar.ofBits (F := Ideal) .f32 0xC3E00000#32))
        (divf h (broadcastTo S2304x7168 s broadcasts_S2304x1_S2304x7168))))
      bitsLt_fp8e4m3_f32 (ix2 R j) = clip (Ideal.div (h (ix2 R j)) (s (ix2 R 0))) := by
  pointwise []
  rfl

/-- The codes, at an index. -/
theorem pay4_apply (x : Vec Ideal S2304x4096 .fp8e4m3) (W : Vec Ideal S4096x14336 .fp8e4m3) (a b a' b' : Ideal .f32)
    (R : Fin 2304) (j : Fin 7168) :
    k0_pay4 (F := Ideal) x W a b a' b' (ix2 R j)
      = clip (Ideal.div (k0_pay2 (F := Ideal) x W a b a' b' (ix2 R j)) (k0_pay3 (F := Ideal) x W a b a' b' (ix2 R 0))) :=
  quant_apply _ _ R j

/-- The output, at an index. -/
theorem pay1_apply (s : FVec Ideal S2304x1 .f32) (q : FVec Ideal S2304x7168 .fp8e4m3) (res : Vec Ideal S2304x4096 .f32)
    (W : Vec Ideal S7168x4096 .fp8e4m3) (w : Elt Ideal .f32) (R : Fin 2304) (n : Fin 4096) :
    k0_pay1 (F := Ideal) s q res W w (ix2 R n)
      = res (ix2 R n) + (∑ j : Fin 7168, q (ix2 R j) * W (ix2 j n)) * s (ix2 R 0) * w := by
  pointwise [k0_pay1]

variable (m : (ℓ : Loc nD τ sig) → Buf (Elt Ideal) ℓ)

/-- The arguments as the launch finds them. -/
def ins (c : Dev nD) : MlpRows.Ins where
  x R k := m ((c : Thread nD τ).loc main_arg0) (ix2 R k)
  res R k := m ((c : Thread nD τ).loc main_arg1) (ix2 R k)
  W k j := m ((c : Thread nD τ).loc main_arg2) (ix2 k j)
  ws i := m ((c : Thread nD τ).loc main_arg3) (ix1 i)
  sx := m ((c : Thread nD τ).loc main_arg4) ix0
  Wd k j := m ((c : Thread nD τ).loc main_arg5) (ix2 k j)
  wd := m ((c : Thread nD τ).loc main_arg6) ix0

theorem idx_facts : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

theorem idx_scal : ∀ t : Fin cfg0.N, win0_0.index t = ![0] ∧ win0_1.index t = ![0] ∧ win0_2.index t = ![0] :=
  (by decide +kernel : ∀ t : Fin grid0.N, _)

theorem blk3 (c : Dev nD) (t : Fin cfg0.N) (r : Fin 2304) (k : Fin 4096) :
    iblk m c 3 t (ix2 r k) = (ins m c).x r k := by
  show _ = m ((c : Thread nD τ).loc main_arg0) (ix2 r k)
  blk_ext [iblk, V_main_arg0, idx_facts t]

theorem blk4 (c : Dev nD) (t : Fin cfg0.N) (r : Fin 2304) (k : Fin 4096) :
    iblk m c 4 t (ix2 r k) = (ins m c).res r k := by
  show _ = m ((c : Thread nD τ).loc main_arg1) (ix2 r k)
  blk_ext [iblk, V_main_arg1, idx_facts t]

theorem blk5 (c : Dev nD) (t : Fin cfg0.N) (r : Fin 4096) (k : Fin 14336) :
    iblk m c 5 t (ix2 r k) = (ins m c).W r k := by
  show _ = m ((c : Thread nD τ).loc main_arg2) (ix2 r k)
  blk_ext [iblk, V_main_arg2, idx_facts t]

theorem blk6 (c : Dev nD) (t : Fin cfg0.N) (r : Fin 7168) (k : Fin 4096) :
    iblk m c 6 t (ix2 r k) = (ins m c).Wd r k := by
  show _ = m ((c : Thread nD τ).loc main_arg5) (ix2 r k)
  blk_ext [iblk, V_main_arg5, idx_facts t]

theorem scal0 (c : Dev nD) (t : Fin cfg0.N) (h) :
    iblk m c 0 t (Shape.Idx.first (s := S1) h) = (ins m c).sx := by
  show _ = m ((c : Thread nD τ).loc main_arg4) ix0
  blk_point [iblk, V, idx_scal t]

theorem scal2 (c : Dev nD) (t : Fin cfg0.N) (h) :
    iblk m c 2 t (Shape.Idx.first (s := S1) h) = (ins m c).wd := by
  show _ = m ((c : Thread nD τ).loc main_arg6) ix0
  blk_point [iblk, V, idx_scal t]

theorem ld1 (c : Dev nD) (t : Fin cfg0.N) (i : Fin 2) (hi) (h) :
    View.ld (iblk m c 1 t) (Rect.unit ![i.val] ![1] hi) (Shape.Idx.first h) = (ins m c).ws i := by
  show _ = m ((c : Thread nD τ).loc main_arg3) (ix1 i)
  rw [View.ld_apply]
  blk_point [iblk, V, idx_scal t]
  rfl

/-- The hidden values the body computes. -/
theorem hid_eq (c : Dev nD) (t : Fin cfg0.N) (p0 p1 p2 p3) (R : Fin 2304) (j : Fin 7168) :
    k0_pay2 (F := Ideal) (iblk m c 3 t) (iblk m c 5 t) (iblk m c 0 t (Shape.Idx.first (s := S1) p0))
      (View.ld (iblk m c 1 t) (Rect.unit ![0] ![1] inb_S2_S1_0) (Shape.Idx.first p1))
      (iblk m c 0 t (Shape.Idx.first (s := S1) p2))
      (View.ld (iblk m c 1 t) (Rect.unit ![1] ![1] inb_S2_S1_1) (Shape.Idx.first p3)) (ix2 R j)
      = (ins m c).kH R j := by
  refine (pay2_apply _ _ _ _ _ _ R j).trans (Eq.trans ?_ (congrFun ((ins m c).h_same R) j))
  have e0 := ld1 m c t 0 inb_S2_S1_0 p1
  have e1 := ld1 m c t 1 inb_S2_S1_1 p3
  rw [scal0]
  refine (congrArg₂ (fun u v => glu (_ * u) (_ * v)) e0 e1).trans ?_
  simp only [blk3, blk5]
  rfl

/-- The scales the body computes. -/
theorem scale_eq (c : Dev nD) (t : Fin cfg0.N) (p0 p1 p2 p3) (R : Fin 2304) :
    k0_pay3 (F := Ideal) (iblk m c 3 t) (iblk m c 5 t) (iblk m c 0 t (Shape.Idx.first (s := S1) p0))
      (View.ld (iblk m c 1 t) (Rect.unit ![0] ![1] inb_S2_S1_0) (Shape.Idx.first p1))
      (iblk m c 0 t (Shape.Idx.first (s := S1) p2))
      (View.ld (iblk m c 1 t) (Rect.unit ![1] ![1] inb_S2_S1_1) (Shape.Idx.first p3)) (ix2 R 0)
      = (ins m c).s R := by
  rw [pay3_apply]
  simp only [hid_eq m c t p0 p1 p2 p3]
  rfl

/-- The codes the body computes. -/
theorem codes_eq (c : Dev nD) (t : Fin cfg0.N) (p0 p1 p2 p3) (R : Fin 2304) (j : Fin 7168) :
    k0_pay4 (F := Ideal) (iblk m c 3 t) (iblk m c 5 t) (iblk m c 0 t (Shape.Idx.first (s := S1) p0))
      (View.ld (iblk m c 1 t) (Rect.unit ![0] ![1] inb_S2_S1_0) (Shape.Idx.first p1))
      (iblk m c 0 t (Shape.Idx.first (s := S1) p2))
      (View.ld (iblk m c 1 t) (Rect.unit ![1] ![1] inb_S2_S1_1) (Shape.Idx.first p3)) (ix2 R j)
      = (ins m c).rC R j := by
  rw [pay4_apply, hid_eq m c t p0 p1 p2 p3, scale_eq m c t p0 p1 p2 p3]
  rfl

/-- After the run the first result holds the codes. -/
theorem arr7 (c : Dev nD) : (dats m 0 c).arrAt 7 cfg0.N = fun i => (ins m c).rC (i 0) (i 1) := by
  refine (dats m 0 c).arrAt_eq_of_covers 7 _ (by decide +kernel) fun t hf y => ?_
  blk_simp
  rw [after0_7]
  simp only [outsAt0]
  frame_out
  simp only [read_unread_whole]
  obtain ⟨r, k, rfl⟩ : ∃ (r : Fin 2304) (k : Fin 7168), y = ix2 r k := ⟨y 0, y 1, by blk_ext⟩
  have e : ((View.whole main_v2_0).slice (win0_7.rect t)).emb (ix2 r k) = ix2 r k := by
    blk_ext [idx_facts t]
  rw [e]
  exact codes_eq m c t _ _ _ _ r k

/-- After the run the second result holds the scales. -/
theorem arr8 (c : Dev nD) : (dats m 0 c).arrAt 8 cfg0.N = fun i => (ins m c).s (i 0) := by
  refine (dats m 0 c).arrAt_eq_of_covers 8 _ (by decide +kernel) fun t hf y => ?_
  blk_simp
  rw [after0_8]
  simp only [outsAt0]
  frame_out
  simp only [read_unread_whole]
  obtain ⟨r, rfl⟩ : ∃ (r : Fin 2304), y = ix2 r 0 := ⟨y 0, by blk_ext⟩
  have e : ((View.whole main_v2_1).slice (win0_8.rect t)).emb (ix2 r 0) = ix2 r 0 := by
    blk_ext [idx_facts t]
  rw [e]
  exact scale_eq m c t _ _ _ _ r

/-- After the run the third result holds the output. -/
theorem arr9 (c : Dev nD) : (dats m 0 c).arrAt 9 cfg0.N = fun i => (ins m c).rY (i 0) (i 1) := by
  refine (dats m 0 c).arrAt_eq_of_covers 9 _ (by decide +kernel) fun t hf y => ?_
  blk_simp
  rw [after0_9]
  simp only [outsAt0]
  frame_out
  simp only [read_unread_whole]
  obtain ⟨r, k, rfl⟩ : ∃ (r : Fin 2304) (k : Fin 4096), y = ix2 r k := ⟨y 0, y 1, by blk_ext⟩
  have e : ((View.whole main_v2_2).slice (win0_9.rect t)).emb (ix2 r k) = ix2 r k := by
    blk_ext [idx_facts t]
  rw [e]
  refine (pay1_apply _ _ _ _ _ r k).trans ?_
  rw [scale_eq, scal2, blk4]
  simp only [codes_eq, blk6]
  rfl

end Cert.MlpRef

end
-- ==== Proof.Mlp.lean ====
/-
  The claims about the two feed-forward calls: from memories agreeing on the arguments, both programs leave the same
  three arrays.
-/
module

public import proofs.«01_k».proof.Defs
public import proofs.«01_k».proof.Proof.MlpRun
public import proofs.«01_k».proof.Proof.MlpAmax
public import proofs.«01_k».proof.Proof.MlpDown
public import proofs.«01_k».proof.Proof.MlpRef
public import proofs.«01_k».proof.Proof.Gen.MlpIdeal
public import proofs.«01_k».proof.Proof.Gen.MlpReferenceIdeal

@[expose] public section

set_option maxRecDepth 16384

noncomputable section

namespace Cert.MlpGu

open Cert.MlpIdeal Cert.MlpIdeal.Gen Cert.Rows Cert.MlpRows Idealize.ShloMosaic Idealize.ShloMosaic.TcCoe Idealize.SL.Sem

variable (m : (ℓ : Loc nD τ sig) → Buf (Elt Ideal) ℓ) (ρ : Dev nD → PrngReg)

/-- The arguments as the launch finds them. -/
def args (c : Dev nD) : MlpRows.Ins where
  x R k := m ((c : Thread nD τ).loc main_arg0) (ix2 R k)
  res R k := m ((c : Thread nD τ).loc main_arg1) (ix2 R k)
  W k j := m ((c : Thread nD τ).loc main_arg2) (ix2 k j)
  ws i := m ((c : Thread nD τ).loc main_arg3) (ix1 i)
  sx := m ((c : Thread nD τ).loc main_arg4) ix0
  Wd k j := m ((c : Thread nD τ).loc main_arg5) (ix2 k j)
  wd := m ((c : Thread nD τ).loc main_arg6) ix0

/-- The one-element vector a scalar is reshaped to holds the scalar. -/
theorem read_v0 (f : Valuation τ sig (Elt Ideal)) :
    StableHlo.after hostOps0 f (Proc.devRef .tc main_v0) (ix1 0) = f (Proc.devRef .tc main_arg4) ix0 := by
  blk_point [hostOps0]

theorem read_v2 (f : Valuation τ sig (Elt Ideal)) :
    StableHlo.after hostOps1 f (Proc.devRef .tc main_v2) (ix1 0) = f (Proc.devRef .tc main_arg6) ix0 := by
  blk_point [hostOps1]

/-- The first call finds the arguments' activations, weights and scales, the activation scale as a one-element vector. -/
theorem find1 (c : Dev nD) : (ins (V1 m ρ) c).kH = (args m c).kH := by
  have a0 : V1 m ρ c main_arg0 = m ((c : Thread nD τ).loc main_arg0) := W1_args m ρ c main_arg0 (by decide)
  have a2 : V1 m ρ c main_arg2 = m ((c : Thread nD τ).loc main_arg2) := W1_args m ρ c main_arg2 (by decide)
  have a3 : V1 m ρ c main_arg3 = m ((c : Thread nD τ).loc main_arg3) := W1_args m ρ c main_arg3 (by decide)
  have e0 : V1 m ρ c main_v0 (ix1 0) = m ((c : Thread nD τ).loc main_arg4) ix0 :=
    read_v0 (W0 m ρ c)
  unfold MlpRows.Ins.kH MlpRows.Ins.dot ins args
  dsimp only
  rw [a0, a2, a3, e0]

/-- The second call finds the hidden values in the first call's first result. -/
theorem find_hid (c : Dev nD) (R : Fin 2304) (j : Fin 7168) : hid (V3 m ρ) c R j = (args m c).kH R j := by
  have e : V3 m ρ c main_v1_0 = (dat0 (V1 m ρ) c).arrAt 5 cfg0.N :=
    (W3_of m ρ c main_v1_0 (by decide)).trans (W2_arr m ρ c 5)
  unfold hid
  rw [e, arr5, find1]
  rfl

/-- The second call finds the greatest magnitudes of each row, lane by lane, in the first call's second result. -/
theorem find_lane (c : Dev nD) (R : Fin 2304) (l : Fin 128) :
    Above ((args m c).kH R) l 14 (lane (V3 m ρ) c R l) := by
  have e : V3 m ρ c main_v1_1 = (dat0 (V1 m ρ) c).arrAt 6 cfg0.N :=
    (W3_of m ρ c main_v1_1 (by decide)).trans (W2_arr m ρ c 6)
  unfold lane
  rw [e, ← find1 m ρ c]
  exact above_arr6 (V1 m ρ) c R l

/-- So its scales are the rows' scales, -/
theorem dS_eq (c : Dev nD) (R : Fin 2304) : dS (V3 m ρ) c R = (args m c).s R :=
  congrArg scale (above_all (find_lane m ρ c R))

/-- its codes the rows' codes, -/
theorem dC_eq (c : Dev nD) (R : Fin 2304) (j : Fin 7168) : dC (V3 m ρ) c R j = (args m c).kC R j := by
  unfold dC MlpRows.Ins.kC
  rw [dS_eq, find_hid]

/-- and its output the rows' output. -/
theorem dY_eq (c : Dev nD) (R : Fin 2304) (n : Fin 4096) : dY (V3 m ρ) c R n = (args m c).kY R n := by
  have a1 : V3 m ρ c main_arg1 = m ((c : Thread nD τ).loc main_arg1) := W3_args m ρ c main_arg1 (by decide)
  have a5 : V3 m ρ c main_arg5 = m ((c : Thread nD τ).loc main_arg5) := W3_args m ρ c main_arg5 (by decide)
  have e0 : V3 m ρ c main_v2 (ix1 0) = m ((c : Thread nD τ).loc main_arg6) ix0 :=
    (read_v2 (W2 m ρ c)).trans (congrFun (W2_args m ρ c main_arg6 (by decide)) ix0)
  unfold dY MlpRows.Ins.kY
  simp only [dC_eq, dS_eq]
  unfold ins args
  dsimp only
  rw [a1, a5, e0]

end Cert.MlpGu

namespace Cert.MlpClaim

open Cert.Rows Cert.MlpRows Idealize.ShloMosaic Idealize.ShloMosaic.TcCoe Idealize.SL.Sem

/-- The idealized feed-forward calls and the idealized reference leave the same codes, scales and output. -/
theorem algebraic : @algebraic_MlpIdeal_MlpReferenceIdeal MlpIdeal.Gen.facts MlpReferenceIdeal.Gen.facts := by
  intro m g m' g' _ hag
  have hins : ∀ c, MlpRef.ins m' c = MlpGu.args m c := by
    intro c
    obtain ⟨a0, a1, a2, a3, a4, a5, a6⟩ := hag c
    unfold MlpRef.ins MlpGu.args
    rw [a0, a1, a2, a3, a4, a5, a6]
  refine ⟨fun c i => (MlpGu.args m c).kC (i 0) (i 1), fun c i => (MlpGu.args m c).s (i 0),
    fun c i => (MlpGu.args m c).kY (i 0) (i 1), ?_, ?_⟩
  · refine (θ_run _ _ _).mono (fun r h c => ?_) (MlpRun.run m g)
    obtain ⟨h0, h1, h2, hargs⟩ := h c
    refine ⟨h0.trans ((MlpGu.arr1_5 _ c).trans ?_), h1.trans ((MlpGu.arr1_6 _ c).trans ?_),
      h2.trans ((MlpGu.arr1_7 _ c).trans ?_), hargs⟩
    · funext i; exact MlpGu.dC_eq m g c _ _
    · funext i; exact MlpGu.dS_eq m g c _
    · funext i; exact MlpGu.dY_eq m g c _ _
  · refine (θ_run _ _ _).mono (fun r h c => ?_) (MlpReferenceIdeal.Value.run_blocks m' g')
    obtain ⟨h0, h1, h2, hargs⟩ := h c
    refine ⟨h0.trans ((MlpRef.arr7 m' c).trans ?_), h1.trans ((MlpRef.arr8 m' c).trans ?_),
      h2.trans ((MlpRef.arr9 m' c).trans ?_), hargs⟩
    · rw [hins]; funext i; exact MlpRows.Ins.c_same _ _ _
    · rw [hins]; rfl
    · rw [hins]; funext i; exact MlpRows.Ins.y_same _ _ _

end Cert.MlpClaim

end
-- ==== Proof.ProjRows.lean ====
/-
  The row functions both sides of the output projection's claim are read as, over the extended reals, and their
  equality. Nothing here names a program.
-/
module

public import proofs.«01_k».proof.Proof.Rows

@[expose] public section

noncomputable section

namespace Cert.ProjRows

open Idealize.ShloMosaic Cert.Rows

/-- The square of a row's entry at a column, and 0 past the row's end. -/
def sq (H : Fin 4096 → EReal) (j : Nat) : EReal := if h : j < 4096 then H ⟨j, h⟩ * H ⟨j, h⟩ else 0

theorem sq_of {H : Fin 4096 → EReal} {j : Nat} (h : j < 4096) : sq H j = H ⟨j, h⟩ * H ⟨j, h⟩ := dif_pos h

/-- The squares of the first `n` groups of 128 columns, summed in lane `l`. -/
def lanes (H : Fin 4096 → EReal) (l n : Nat) : EReal := ∑ q ∈ Finset.range n, sq H (128 * q + l)

theorem lanes_zero (H : Fin 4096 → EReal) (l : Nat) : lanes H l 0 = 0 := Finset.sum_range_zero _

theorem lanes_succ (H : Fin 4096 → EReal) (l n : Nat) : lanes H l (n + 1) = lanes H l n + sq H (128 * n + l) :=
  Finset.sum_range_succ _ _

/-- The lanes' sums over all groups add up to the row's sum of squares. -/
theorem sum_lanes (H : Fin 4096 → EReal) : ∑ l : Fin 128, lanes H l.val 32 = ssq H := by
  unfold lanes ssq
  simp only [Finset.sum_range]
  rw [Finset.sum_comm, ← Fintype.sum_prod_type' (f := fun (q : Fin 32) (l : Fin 128) => sq H (128 * q.val + l.val))]
  refine Fintype.sum_equiv (finProdFinEquiv (m := 32) (n := 128)) _ _ fun p => ?_
  have hp : 128 * p.1.val + p.2.val < 4096 := by have := p.1.isLt; have := p.2.isLt; omega
  rw [sq_of hp]
  have e : (⟨128 * p.1.val + p.2.val, hp⟩ : Fin 4096) = finProdFinEquiv p := Fin.ext (Nat.add_comm _ _)
  rw [e]

/-- The arguments of the output projection, read at coordinates. -/
structure Ins where
  o : Fin 2304 → Fin 2048 → EReal
  x : Fin 2304 → Fin 4096 → EReal
  W : Fin 2048 → Fin 4096 → EReal
  wo : EReal
  w : Fin 4096 → EReal
  so : EReal
  sx : EReal

namespace Ins

variable (I : Ins)

/-- One row of attention codes against one column of the output weights. -/
def dot (R : Fin 2304) (n : Fin 4096) : EReal := ∑ k, I.o R k * I.W k n

def kH (R : Fin 2304) (n : Fin 4096) : EReal := I.x R n + I.dot R n * (I.so * I.wo)
def rH (R : Fin 2304) (n : Fin 4096) : EReal := I.x R n + I.dot R n * I.so * I.wo
def kX2 (R : Fin 2304) : Fin 4096 → EReal := x1Ker (I.kH R) I.w I.sx
def rX2 (R : Fin 2304) : Fin 4096 → EReal := x1Ref (I.rH R) I.w I.sx

theorem h_same (R : Fin 2304) : I.kH R = I.rH R := by
  funext n
  unfold kH rH
  rw [mul_assoc]

variable {I}

theorem x2_same (h : I.sx ≠ 0) (R : Fin 2304) : I.kX2 R = I.rX2 R := by
  unfold kX2 rX2
  rw [x1_eq _ _ h, h_same]

end Ins

end Cert.ProjRows

end
-- ==== Proof.ProjPay.lean ====
/-
  The projection body's values read at an index, over the extended reals.
-/
module

public import proofs.«01_k».proof.Proof.Gen.ProjIdeal.Skeleton
public import proofs.«01_k».proof.Proof.ProjRows

@[expose] public section

set_option maxRecDepth 16384

noncomputable section

namespace Cert.ProjPay

open Cert.ProjIdeal Cert.ProjIdeal.Gen Cert.Rows Cert.ProjRows Idealize.ShloMosaic

/-- A block of the residual stream, at an index. -/
theorem h_apply (f : Ideal .f32) (o : Vec Ideal S256x2048 .fp8e4m3) (x : Vec Ideal S256x512 .bf16)
    (w : Vec Ideal S2048x512 .fp8e4m3) (r : Fin 256) (k : Fin 512) :
    k0_pay8 f o x w (ix2 r k) = x (ix2 r k) + (∑ i : Fin 2048, o (ix2 r i) * w (ix2 i k)) * f := by
  pointwise [k0_pay8]

/-- The squares of a block's four lane groups added to a running sum, at a row and lane. -/
def add4 (a : EReal) (h : FVec Ideal S256x512 .f32) (r : Fin 256) (l : Fin 128) : EReal :=
  a + h (ix2 r ⟨l.val, by omega⟩) * h (ix2 r ⟨l.val, by omega⟩)
    + h (ix2 r ⟨128 + l.val, by omega⟩) * h (ix2 r ⟨128 + l.val, by omega⟩)
    + h (ix2 r ⟨256 + l.val, by omega⟩) * h (ix2 r ⟨256 + l.val, by omega⟩)
    + h (ix2 r ⟨384 + l.val, by omega⟩) * h (ix2 r ⟨384 + l.val, by omega⟩)

theorem sum2_apply (v0 v1 : Elt Ideal .f32) (o : Vec Ideal S256x2048 .fp8e4m3) (x x' : Vec Ideal S256x512 .bf16)
    (w w' : Vec Ideal S2048x512 .fp8e4m3) (r : Fin 256) (l : Fin 128) :
    k0_pay6 v0 v1 o x w x' w' (ix2 r l) + k0_pay7 v0 v1 o x' w' (ix2 r l)
      = add4 (add4 0 (k0_pay8 (k0_pay2 v0 v1) o x w) r l) (k0_pay8 (k0_pay2 v0 v1) o x' w') r l := by
  unfold k0_pay6 k0_pay7 k0_pay5
  change _ = add4 (add4 0 (k0_pay3 v0 v1 o x w) r l) (k0_pay4 v0 v1 o x' w') r l
  generalize k0_pay3 v0 v1 o x w = h
  generalize k0_pay4 v0 v1 o x' w' = h'
  pointwise []
  simp only [add4, zero_add]

theorem sum4_apply (f : Ideal .f32) (o : Vec Ideal S256x2048 .fp8e4m3) (a b : FVec Ideal S256x128 .f32)
    (x x' : Vec Ideal S256x512 .bf16) (w w' : Vec Ideal S2048x512 .fp8e4m3) (r : Fin 256) (l : Fin 128) :
    k0_pay10 f o a b x w x' w' (ix2 r l)
      = add4 (add4 (a (ix2 r l) + b (ix2 r l)) (k0_pay8 f o x w) r l) (k0_pay8 f o x' w') r l := by
  unfold k0_pay10
  change _ = add4 (add4 (a (ix2 r l) + b (ix2 r l)) (k0_pay8 f o x w) r l) (k0_pay9 f o x' w') r l
  generalize k0_pay8 f o x w = h
  generalize k0_pay9 f o x' w' = h'
  pointwise []
  rfl

theorem sum6_apply (f : Ideal .f32) (o : Vec Ideal S256x2048 .fp8e4m3) (a : FVec Ideal S256x128 .f32)
    (p q : FVec Ideal S256x512 .f32)
    (x x' : Vec Ideal S256x512 .bf16) (w w' : Vec Ideal S2048x512 .fp8e4m3) (r : Fin 256) (l : Fin 128) :
    k0_pay17 f o a p q x w x' w' (ix2 r l)
      = add4 (add4 (a (ix2 r l)) (k0_pay13 f p q) r l) (k0_pay8 f o x w) r l
        + k0_pay8 f o x' w' (ix2 r ⟨l.val, by omega⟩) * k0_pay8 f o x' w' (ix2 r ⟨l.val, by omega⟩) := by
  unfold k0_pay17 k0_pay16
  change _ = add4 (add4 (a (ix2 r l)) (k0_pay13 f p q) r l) (k0_pay14 f o x w) r l
        + k0_pay15 f o x' w' (ix2 r ⟨l.val, by omega⟩) * k0_pay15 f o x' w' (ix2 r ⟨l.val, by omega⟩)
  generalize k0_pay13 f p q = h
  generalize k0_pay14 f o x w = h'
  generalize k0_pay15 f o x' w' = h''
  pointwise []
  rfl

/-- The last block's squares, the sum over the lanes, and the row normalised by it. -/
theorem norm_apply (f : Ideal .f32) (o : Vec Ideal S256x2048 .fp8e4m3) (s : FVec Ideal S256x512 .f32)
    (a : FVec Ideal S256x128 .f32) (x : Vec Ideal S256x512 .bf16) (w : Vec Ideal S2048x512 .fp8e4m3)
    (H : Vec Ideal S256x4096 .f32) (r : Fin 256) (k : Fin 4096) :
    k0_pay20 f o s a x w H (ix2 r k)
      = H (ix2 r k) * Ideal.div 1 (Ideal.sqrt ((∑ l : Fin 128,
          add4 (a (ix2 r l) + s (ix2 r ⟨128 + l.val, by omega⟩) + s (ix2 r ⟨256 + l.val, by omega⟩)
            + s (ix2 r ⟨384 + l.val, by omega⟩)) (k0_pay8 f o x w) r l)
          * Ideal.ofBits .f32 0x39800000#32 + eps)) := by
  unfold k0_pay20
  change _ = H (ix2 r k) * Ideal.div 1 (Ideal.sqrt ((∑ l : Fin 128,
          add4 (a (ix2 r l) + s (ix2 r ⟨128 + l.val, by omega⟩) + s (ix2 r ⟨256 + l.val, by omega⟩)
            + s (ix2 r ⟨384 + l.val, by omega⟩)) (k0_pay18 f o x w) r l)
          * Ideal.ofBits .f32 0x39800000#32 + eps))
  generalize k0_pay18 f o x w = h
  pointwise []
  rfl

/-- The stored codes, at an index. -/
theorem codes_apply (w : Vec Ideal S1x4096 .f32) (s : Elt Ideal .f32) (v : FVec Ideal S256x4096 .f32) (r : Fin 256)
    (k : Fin 4096) :
    k0_pay1 (k0_pay19 w s) v (ix2 r k) = clip (v (ix2 r k) * (w (ix2 0 k) * Ideal.div 1 s)) := by
  pointwise [k0_pay1, k0_pay19]
  rfl

end Cert.ProjPay

end
-- ==== Proof.ProjBlock.lean ====
/-
  The projection call's blocks, and what it leaves in its two results.
-/
module

public import proofs.«01_k».proof.Proof.Gen.ProjIdeal.Value
public import proofs.«01_k».proof.Proof.ProjPay
public import Idealize.ShloMosaic.Lib.Pipeline.ValueKit

@[expose] public section

set_option maxRecDepth 16384

noncomputable section

namespace Cert.ProjBlock

open Cert.ProjIdeal Cert.ProjIdeal.Gen Cert.Rows Cert.ProjRows Cert.ProjPay Idealize.ShloMosaic Idealize.ShloMosaic.TcCoe Idealize.SL.Sem
open Idealize.ShloMosaic.Pipeline (Dat)

variable (m : (ℓ : Loc nD τ sig) → Buf (Elt Ideal) ℓ)

/-- The arguments as the launch finds them. -/
def ins (c : Dev nD) : ProjRows.Ins where
  o R k := m ((c : Thread nD τ).loc main_arg0) (ix2 R k)
  x R k := m ((c : Thread nD τ).loc main_arg1) (ix2 R k)
  W k j := m ((c : Thread nD τ).loc main_arg2) (ix2 k j)
  wo := m ((c : Thread nD τ).loc main_arg3) ix0
  w k := m ((c : Thread nD τ).loc main_arg4) (ix1 k)
  so := m ((c : Thread nD τ).loc main_arg5) ix0
  sx := m ((c : Thread nD τ).loc main_arg6) ix0

theorem idx_facts : ∀ t : Fin cfg0.N, win0_3.index t = ![t.val, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

theorem idx_scal : ∀ t : Fin cfg0.N, win0_0.index t = ![0] ∧ win0_1.index t = ![0] ∧ win0_2.index t = ![0] :=
  (by decide +kernel : ∀ t : Fin grid0.N, _)

/-- The array row of a block's row. -/
def row (t : Fin cfg0.N) (r : Fin 256) : Fin 2304 :=
  ⟨256 * t.val + r.val, by have h : t.val < 9 := lt_of_lt_of_eq t.isLt N_0; omega⟩

theorem blk3 (c : Dev nD) (t : Fin cfg0.N) (r : Fin 256) (k : Fin 4096) :
    iblk m c 3 t (ix2 r k) = (ins m c).x (row t r) k := by
  show _ = m ((c : Thread nD τ).loc main_arg1) (ix2 (row t r) k)
  unfold row
  blk_ext [iblk, V_main_arg1, idx_facts t]

theorem blk4 (c : Dev nD) (t : Fin cfg0.N) (r : Fin 2048) (k : Fin 4096) :
    iblk m c 4 t (ix2 r k) = (ins m c).W r k := by
  show _ = m ((c : Thread nD τ).loc main_arg2) (ix2 r k)
  blk_ext [iblk, V_main_arg2, idx_facts t]

theorem blk5 (c : Dev nD) (t : Fin cfg0.N) (k : Fin 4096) :
    iblk m c 5 t (ix2 0 k) = (ins m c).w k := by
  show _ = m ((c : Thread nD τ).loc main_arg4) (ix1 k)
  blk_point [iblk, V, idx_facts t]

theorem blk6 (c : Dev nD) (t : Fin cfg0.N) (r : Fin 256) (k : Fin 2048) :
    iblk m c 6 t (ix2 r k) = (ins m c).o (row t r) k := by
  show _ = m ((c : Thread nD τ).loc main_arg0) (ix2 (row t r) k)
  unfold row
  blk_ext [iblk, V_main_arg0, idx_facts t]

theorem ld0 (c : Dev nD) (t : Fin cfg0.N) (h) :
    View.ld (iblk m c 0 t) (Rect.unit ![0] ![1] inb_S1_S1_0) (Shape.Idx.first h) = (ins m c).so := by
  show _ = m ((c : Thread nD τ).loc main_arg5) ix0
  rw [View.ld_apply]
  blk_point [iblk, V, idx_scal t]

theorem ld1 (c : Dev nD) (t : Fin cfg0.N) (h) :
    View.ld (iblk m c 1 t) (Rect.unit ![0] ![1] inb_S1_S1_0) (Shape.Idx.first h) = (ins m c).wo := by
  show _ = m ((c : Thread nD τ).loc main_arg3) ix0
  rw [View.ld_apply]
  blk_point [iblk, V, idx_scal t]

theorem ld2 (c : Dev nD) (t : Fin cfg0.N) (h) :
    View.ld (iblk m c 2 t) (Rect.unit ![0] ![1] inb_S1_S1_0) (Shape.Idx.first h) = (ins m c).sx := by
  show _ = m ((c : Thread nD τ).loc main_arg6) ix0
  rw [View.ld_apply]
  blk_point [iblk, V, idx_scal t]

/-- The product of the two scalars, as the body takes it from its operands. -/
abbrev fac (c : Dev nD) (t : Fin cfg0.N) (h h' : 0 < S1.numel) : Ideal .f32 :=
  k0_pay2 (F := Ideal) (View.ld (iblk m c 0 t) (Rect.unit ![0] ![1] inb_S1_S1_0) (Shape.Idx.first h))
    (View.ld (iblk m c 1 t) (Rect.unit ![0] ![1] inb_S1_S1_0) (Shape.Idx.first h'))

theorem fac_eq (c : Dev nD) (t : Fin cfg0.N) (h h' : 0 < S1.numel) : fac m c t h h' = (ins m c).so * (ins m c).wo := by
  rw [← ld0 m c t h, ← ld1 m c t h']
  rfl

/-- The block of the residual stream computed for 512 columns from `B`, at an index. -/
theorem h_block (c : Dev nD) (t : Fin cfg0.N) (h h' : 0 < S1.numel) {B : Nat} (hB : B + 512 ≤ 4096) (hi hj) (r : Fin 256) (k : Fin 512) :
    k0_pay8 (fac m c t h h') (iblk m c 6 t) (View.ld (iblk m c 3 t) (Rect.unit ![0, B] ![256, 512] hi))
      (View.ld (iblk m c 4 t) (Rect.unit ![0, B] ![2048, 512] hj)) (ix2 r k)
      = (ins m c).kH (row t r) ⟨B + k.val, by omega⟩ := by
  have e3 : View.ld (iblk m c 3 t) (Rect.unit ![0, B] ![256, 512] hi) (ix2 r k) = (ins m c).x (row t r) ⟨B + k.val, by omega⟩ := by
    rw [View.ld_apply, ← blk3 m c t]
    congr 1
    blk_ext
    · rw [Rect.idx_unit_val]; exact Nat.zero_add _
    · rw [Rect.idx_unit_val]; rfl
  have e4 : ∀ j : Fin 2048, View.ld (iblk m c 4 t) (Rect.unit ![0, B] ![2048, 512] hj) (ix2 j k)
      = (ins m c).W j ⟨B + k.val, by omega⟩ := by
    intro j
    rw [View.ld_apply, ← blk4 m c t]
    congr 1
    blk_ext
    · rw [Rect.idx_unit_val]; exact Nat.zero_add _
    · rw [Rect.idx_unit_val]; rfl
  rw [h_apply, fac_eq, e3]
  simp only [blk6, e4]
  rfl

/-- A store of the residual stream, at an index of its piece. -/
theorem h_piece (c : Dev nD) (t : Fin cfg0.N) (h h' : 0 < S1.numel) {B : Nat} (hB : B + 512 ≤ 4096) (hi hj) (x : S256x512.Idx)
    (r : Fin 256) (n : Fin 4096) (hr : r.val = (x 0).val) (hn : n.val = B + (x 1).val) :
    k0_pay8 (fac m c t h h') (iblk m c 6 t) (View.ld (iblk m c 3 t) (Rect.unit ![0, B] ![256, 512] hi))
      (View.ld (iblk m c 4 t) (Rect.unit ![0, B] ![2048, 512] hj)) x
      = (ins m c).kH (row t r) n := by
  obtain ⟨a, b, rfl⟩ : ∃ (a : Fin 256) (b : Fin 512), x = ix2 a b := ⟨x 0, x 1, by blk_ext⟩
  obtain rfl : r = a := Fin.ext hr
  rw [h_block m c t h h' hB]
  exact congrArg _ (Fin.ext hn.symm)

/-- After the run the second result holds the residual stream. -/
theorem arr8 (c : Dev nD) : (dats m 0 c).arrAt 8 cfg0.N = fun i => (ins m c).kH (i 0) (i 1) := by
  refine (dats m 0 c).arrAt_eq_of_covers 8 _ (by decide +kernel) fun t hf y => ?_
  blk_simp
  rw [after0_8]
  obtain ⟨r, k, rfl⟩ : ∃ (r : Fin 256) (k : Fin 4096), y = ix2 r k := ⟨y 0, y 1, by blk_ext⟩
  have e : ((View.whole main_v4_1).slice (win0_8.rect t)).emb (ix2 r k) = ix2 (row t r) k := by
    unfold row; blk_ext [idx_facts t]
  rw [e]
  simp only [outsAt0]
  frame_out
  canon_tiles x h
  · exact h_piece m c t _ _ (B := 3584) (by omega) _ _ x r k h0 h1
  · exact h_piece m c t _ _ (B := 3072) (by omega) _ _ x r k h0 h1
  · exact h_piece m c t _ _ (B := 2560) (by omega) _ _ x r k h0 h1
  · exact h_piece m c t _ _ (B := 2048) (by omega) _ _ x r k h0 h1
  · exact h_piece m c t _ _ (B := 1536) (by omega) _ _ x r k h0 h1
  · exact h_piece m c t _ _ (B := 1024) (by omega) _ _ x r k h0 h1
  · exact h_piece m c t _ _ (B := 512) (by omega) _ _ x r k h0 h1
  · exact h_piece m c t _ _ (B := 0) (by omega) _ _ x r k h0 (h1.trans (Nat.zero_add _).symm)

/-- A running lane sum extended by a block's four groups. -/
theorem step (c : Dev nD) (t : Fin cfg0.N) (h h' : 0 < S1.numel) {B n : Nat} (hB : B + 512 ≤ 4096) (hn : B = 128 * n) (hi hj) (r : Fin 256)
    (l : Fin 128) {a : EReal} (ha : a = lanes ((ins m c).kH (row t r)) l.val n) :
    add4 a (k0_pay8 (fac m c t h h') (iblk m c 6 t) (View.ld (iblk m c 3 t) (Rect.unit ![0, B] ![256, 512] hi))
      (View.ld (iblk m c 4 t) (Rect.unit ![0, B] ![2048, 512] hj))) r l
      = lanes ((ins m c).kH (row t r)) l.val (n + 4) := by
  subst ha
  unfold add4
  simp only [h_block m c t h h' hB]
  rw [lanes_succ _ _ (n + 3), lanes_succ _ _ (n + 2), lanes_succ _ _ (n + 1), lanes_succ,
    sq_of (by omega), sq_of (by omega), sq_of (by omega), sq_of (by omega)]
  have e0 : ∀ p, (⟨B + l.val, p⟩ : Fin 4096) = ⟨128 * n + l.val, by omega⟩ := fun p => Fin.ext (by simp only; omega)
  have e1 : ∀ p, (⟨B + (128 + l.val), p⟩ : Fin 4096) = ⟨128 * (n + 1) + l.val, by omega⟩ := fun p => Fin.ext (by simp only; omega)
  have e2 : ∀ p, (⟨B + (256 + l.val), p⟩ : Fin 4096) = ⟨128 * (n + 2) + l.val, by omega⟩ := fun p => Fin.ext (by simp only; omega)
  have e3 : ∀ p, (⟨B + (384 + l.val), p⟩ : Fin 4096) = ⟨128 * (n + 3) + l.val, by omega⟩ := fun p => Fin.ext (by simp only; omega)
  rw [e0, e1, e2, e3]

/-- The lane sums after seven blocks, the last one's squares added group by group. -/
theorem sum7 (f : Ideal .f32) (o : Vec Ideal S256x2048 .fp8e4m3) (a : FVec Ideal S256x128 .f32)
    (p q : FVec Ideal S256x512 .f32)
    (x x' : Vec Ideal S256x512 .bf16) (w w' : Vec Ideal S2048x512 .fp8e4m3) (r : Fin 256) (l : Fin 128) :
    k0_pay17 f o a p q x w x' w' (ix2 r l) + k0_pay16 f o x' w' (ix2 r ⟨128 + l.val, by omega⟩)
      + k0_pay16 f o x' w' (ix2 r ⟨256 + l.val, by omega⟩) + k0_pay16 f o x' w' (ix2 r ⟨384 + l.val, by omega⟩)
      = add4 (add4 (add4 (a (ix2 r l)) (k0_pay13 f p q) r l) (k0_pay8 f o x w) r l) (k0_pay8 f o x' w') r l := by
  rw [sum6_apply]
  rfl

theorem key (c : Dev nD) (t : Fin cfg0.N) (r : Fin 256) (k : Fin 4096) {H w s : EReal} {g : Fin 128 → EReal}
    (hH : H = (ins m c).kH (row t r) k) (hg : ∀ l, g l = lanes ((ins m c).kH (row t r)) l.val 32)
    (hw : w = (ins m c).w k) (hs : s = (ins m c).sx) :
    clip (H * Ideal.div 1 (Ideal.sqrt ((∑ l, g l) * Ideal.ofBits .f32 0x39800000#32 + eps)) * (w * Ideal.div 1 s))
      = (ins m c).kX2 (row t r) k := by
  rw [Finset.sum_congr rfl fun l _ => hg l, sum_lanes, hH, hw, hs]
  rfl

/-- After the run the first result holds the normalised codes. -/
theorem arr7 (c : Dev nD) : (dats m 0 c).arrAt 7 cfg0.N = fun i => (ins m c).kX2 (i 0) (i 1) := by
  refine (dats m 0 c).arrAt_eq_of_covers 7 _ (by decide +kernel) fun t hf y => ?_
  blk_simp
  rw [after0_7]
  obtain ⟨r, k, rfl⟩ : ∃ (r : Fin 256) (k : Fin 4096), y = ix2 r k := ⟨y 0, y 1, by blk_ext⟩
  have e : ((View.whole main_v4_0).slice (win0_7.rect t)).emb (ix2 r k) = ix2 (row t r) k := by
    unfold row; blk_ext [idx_facts t]
  rw [e]
  simp only [outsAt0]
  frame_out
  refine (codes_apply _ _ _ r k).trans ?_
  rw [norm_apply]
  refine key m c t r k ?_ (fun l => ?_) (blk5 m c t k) (ld2 m c t _)
  · rw [View.readCov_eq_canon']
    have e' : (Rect.unit (s := S256x4096) ![0, 0] ![256, 4096] inb_S256x4096_S256x4096_0_0).idx (ix2 r k) = ix2 r k := by
      blk_ext <;> (rw [Rect.idx_unit_val]; exact Nat.zero_add _)
    beta_reduce
    rw [e']
    canon_tiles x h
    · exact h_piece m c t _ _ (B := 3584) (by omega) inb_S256x4096_S256x512_0_3584 inb_S2048x4096_S2048x512_0_3584 x r k h0 h1
    · exact h_piece m c t _ _ (B := 3072) (by omega) inb_S256x4096_S256x512_0_3072 inb_S2048x4096_S2048x512_0_3072 x r k h0 h1
    · exact h_piece m c t _ _ (B := 2560) (by omega) inb_S256x4096_S256x512_0_2560 inb_S2048x4096_S2048x512_0_2560 x r k h0 h1
    · exact h_piece m c t _ _ (B := 2048) (by omega) inb_S256x4096_S256x512_0_2048 inb_S2048x4096_S2048x512_0_2048 x r k h0 h1
    · exact h_piece m c t _ _ (B := 1536) (by omega) inb_S256x4096_S256x512_0_1536 inb_S2048x4096_S2048x512_0_1536 x r k h0 h1
    · exact h_piece m c t _ _ (B := 1024) (by omega) inb_S256x4096_S256x512_0_1024 inb_S2048x4096_S2048x512_0_1024 x r k h0 h1
    · exact h_piece m c t _ _ (B := 512) (by omega) inb_S256x4096_S256x512_0_512 inb_S2048x4096_S2048x512_0_512 x r k h0 h1
    · exact h_piece m c t _ _ (B := 0) (by omega) inb_S256x4096_S256x512_0_0 inb_S2048x4096_S2048x512_0_0 x r k h0 (h1.trans (Nat.zero_add _).symm)
  · refine step m c t _ _ (n := 28) (by omega) rfl _ _ r l ?_
    refine (sum7 _ _ _ _ _ _ _ _ _ r l).trans ?_
    refine step m c t _ _ (n := 24) (by omega) rfl _ _ r l ?_
    refine step m c t _ _ (n := 20) (by omega) rfl _ _ r l ?_
    refine step m c t _ _ (B := 2048) (n := 16) (by omega) rfl inb_S256x4096_S256x512_0_2048 inb_S2048x4096_S2048x512_0_2048 r l ?_
    rw [sum4_apply]
    refine step m c t _ _ (n := 12) (by omega) rfl _ _ r l ?_
    refine step m c t _ _ (n := 8) (by omega) rfl _ _ r l ?_
    rw [sum2_apply]
    refine step m c t _ _ (n := 4) (by omega) rfl _ _ r l ?_
    refine step m c t _ _ (n := 0) (by omega) rfl _ _ r l ?_
    exact (lanes_zero _ _).symm

end Cert.ProjBlock

end
-- ==== Proof.ProjRef.lean ====
/-
  The output projection's reference: its body's values read at an index, and what it leaves in its two result arrays.
-/
module

public import proofs.«01_k».proof.Proof.Gen.ProjReferenceIdeal.Value
public import proofs.«01_k».proof.Proof.ProjRows
public import Idealize.ShloMosaic.Lib.Pipeline.ValueKit
public import Idealize.ShloMosaic.Lib.Pipeline.ReadBack

@[expose] public section

set_option maxRecDepth 16384

noncomputable section

namespace Cert.ProjRef

open Cert.ProjReferenceIdeal Cert.ProjReferenceIdeal.Gen Cert.Rows Cert.ProjRows Idealize.ShloMosaic Idealize.ShloMosaic.TcCoe Idealize.SL.Sem
open Idealize.ShloMosaic.Pipeline (Dat)

/-- The residual stream, at an index. -/
theorem pay1_apply (x : Vec Ideal S2304x4096 .bf16) (o : Vec Ideal S2304x2048 .fp8e4m3) (W : Vec Ideal S2048x4096 .fp8e4m3)
    (a b : Elt Ideal .f32) (R : Fin 2304) (n : Fin 4096) :
    k0_pay1 x o W a b (ix2 R n) = x (ix2 R n) + (∑ k : Fin 2048, o (ix2 R k) * W (ix2 k n)) * a * b := by
  pointwise [k0_pay1]

/-- The normalised codes, at an index. -/
theorem pay2_apply (x : Vec Ideal S2304x4096 .bf16) (o : Vec Ideal S2304x2048 .fp8e4m3) (W : Vec Ideal S2048x4096 .fp8e4m3)
    (a b : Elt Ideal .f32) (w : Vec Ideal S1x4096 .f32) (s : Elt Ideal .f32) (R : Fin 2304) (n : Fin 4096) :
    k0_pay2 x o W a b w s (ix2 R n) = x1Ref (fun k => k0_pay1 x o W a b (ix2 R k)) (fun k => w (ix2 0 k)) s n := by
  unfold k0_pay2
  generalize k0_pay1 x o W a b = H
  pointwise []
  rfl

variable (m : (ℓ : Loc nD τ sig) → Buf (Elt Ideal) ℓ)

/-- The arguments as the launch finds them. -/
def ins (c : Dev nD) : ProjRows.Ins where
  o R k := m ((c : Thread nD τ).loc main_arg0) (ix2 R k)
  x R k := m ((c : Thread nD τ).loc main_arg1) (ix2 R k)
  W k j := m ((c : Thread nD τ).loc main_arg2) (ix2 k j)
  wo := m ((c : Thread nD τ).loc main_arg3) ix0
  w k := m ((c : Thread nD τ).loc main_arg4) (ix1 k)
  so := m ((c : Thread nD τ).loc main_arg5) ix0
  sx := m ((c : Thread nD τ).loc main_arg6) ix0

theorem idx_facts : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

theorem idx_scal : ∀ t : Fin cfg0.N, win0_0.index t = ![0] ∧ win0_1.index t = ![0] ∧ win0_2.index t = ![0] :=
  (by decide +kernel : ∀ t : Fin grid0.N, _)

theorem blk3 (c : Dev nD) (t : Fin cfg0.N) (r : Fin 2304) (k : Fin 2048) :
    iblk m c 3 t (ix2 r k) = (ins m c).o r k := by
  show _ = m ((c : Thread nD τ).loc main_arg0) (ix2 r k)
  blk_ext [iblk, V_main_arg0, idx_facts t]

theorem blk4 (c : Dev nD) (t : Fin cfg0.N) (r : Fin 2304) (k : Fin 4096) :
    iblk m c 4 t (ix2 r k) = (ins m c).x r k := by
  show _ = m ((c : Thread nD τ).loc main_arg1) (ix2 r k)
  blk_ext [iblk, V_main_arg1, idx_facts t]

theorem blk5 (c : Dev nD) (t : Fin cfg0.N) (r : Fin 2048) (k : Fin 4096) :
    iblk m c 5 t (ix2 r k) = (ins m c).W r k := by
  show _ = m ((c : Thread nD τ).loc main_arg2) (ix2 r k)
  blk_ext [iblk, V_main_arg2, idx_facts t]

theorem blk6 (c : Dev nD) (t : Fin cfg0.N) (k : Fin 4096) :
    iblk m c 6 t (ix2 0 k) = (ins m c).w k := by
  show _ = m ((c : Thread nD τ).loc main_arg4) (ix1 k)
  blk_point [iblk, V, idx_facts t]

theorem scal0 (c : Dev nD) (t : Fin cfg0.N) (h) :
    iblk m c 0 t (Shape.Idx.first (s := S1) h) = (ins m c).so := by
  show _ = m ((c : Thread nD τ).loc main_arg5) ix0
  blk_point [iblk, V, idx_scal t]

theorem scal1 (c : Dev nD) (t : Fin cfg0.N) (h) :
    iblk m c 1 t (Shape.Idx.first (s := S1) h) = (ins m c).wo := by
  show _ = m ((c : Thread nD τ).loc main_arg3) ix0
  blk_point [iblk, V, idx_scal t]

theorem scal2 (c : Dev nD) (t : Fin cfg0.N) (h) :
    iblk m c 2 t (Shape.Idx.first (s := S1) h) = (ins m c).sx := by
  show _ = m ((c : Thread nD τ).loc main_arg6) ix0
  blk_point [iblk, V, idx_scal t]

/-- The residual stream the body computes. -/
theorem h_eq (c : Dev nD) (t : Fin cfg0.N) (p0 p1) (R : Fin 2304) (n : Fin 4096) :
    k0_pay1 (iblk m c 4 t) (iblk m c 3 t) (iblk m c 5 t) (iblk m c 0 t (Shape.Idx.first (s := S1) p0))
      (iblk m c 1 t (Shape.Idx.first (s := S1) p1)) (ix2 R n) = (ins m c).rH R n := by
  rw [pay1_apply]
  simp only [scal0, scal1, blk3, blk4, blk5]
  rfl

/-- After the run the second result holds the residual stream. -/
theorem arr8 (c : Dev nD) : (dats m 0 c).arrAt 8 cfg0.N = fun i => (ins m c).rH (i 0) (i 1) := by
  refine (dats m 0 c).arrAt_eq_of_covers 8 _ (by decide +kernel) fun t hf y => ?_
  blk_simp
  rw [after0_8]
  simp only [outsAt0]
  frame_out
  simp only [read_unread_whole]
  obtain ⟨r, k, rfl⟩ : ∃ (r : Fin 2304) (k : Fin 4096), y = ix2 r k := ⟨y 0, y 1, by blk_ext⟩
  have e : ((View.whole main_v4_1).slice (win0_8.rect t)).emb (ix2 r k) = ix2 r k := by
    blk_ext [idx_facts t]
  rw [e]
  exact h_eq m c t _ _ r k

/-- After the run the first result holds the normalised codes. -/
theorem arr7 (c : Dev nD) : (dats m 0 c).arrAt 7 cfg0.N = fun i => (ins m c).rX2 (i 0) (i 1) := by
  refine (dats m 0 c).arrAt_eq_of_covers 7 _ (by decide +kernel) fun t hf y => ?_
  blk_simp
  rw [after0_7]
  simp only [outsAt0]
  frame_out
  simp only [read_unread_whole]
  obtain ⟨r, k, rfl⟩ : ∃ (r : Fin 2304) (k : Fin 4096), y = ix2 r k := ⟨y 0, y 1, by blk_ext⟩
  have e : ((View.whole main_v4_0).slice (win0_7.rect t)).emb (ix2 r k) = ix2 r k := by
    blk_ext [idx_facts t]
  rw [e]
  refine (pay2_apply _ _ _ _ _ _ _ r k).trans ?_
  rw [scal2]
  simp only [h_eq, blk6]
  rfl

end Cert.ProjRef

end
-- ==== Proof.ProjPre.lean ====
/-
  What the projection's precondition says of its static scale.
-/
module

public import proofs.«01_k».proof.Proof.Gen.Pre_x2_scale_ok
public import proofs.«01_k».proof.Proof.QkvPre

@[expose] public section

set_option maxRecDepth 16384

noncomputable section

namespace Cert.ProjPre

open Cert.Pre_x2_scale_ok Cert.Pre_x2_scale_ok.Gen Cert.QkvPre Idealize.ShloMosaic

theorem scale (a0 a1 a2) (a3 : FVec Ideal S_ .f32) (a4) (a5 a6 : FVec Ideal S_ .f32)
    (h : fn (F := Ideal) a0 a1 a2 a3 a4 a5 a6 = fun _ => 1#1) : a6 ix0 ≠ 0 := by
  have h := congrFun h ix0
  pointwise [fn] at h
  simpa only [ofBool_one, decide_eq_true_eq] using h

end Cert.ProjPre

end
-- ==== Proof.Proj.lean ====
/-
  The claim about the output projection: from memories agreeing on the arguments, both programs leave the same two arrays.
-/
module

public import proofs.«01_k».proof.Defs
public import proofs.«01_k».proof.Proof.ProjBlock
public import proofs.«01_k».proof.Proof.ProjRef
public import proofs.«01_k».proof.Proof.ProjPre
public import proofs.«01_k».proof.Proof.Gen.ProjIdeal
public import proofs.«01_k».proof.Proof.Gen.ProjReferenceIdeal

@[expose] public section

set_option maxRecDepth 16384

noncomputable section

namespace Cert.ProjClaim

open Cert.ProjRows Idealize.ShloMosaic Idealize.ShloMosaic.TcCoe Idealize.SL.Sem

/-- Under the precondition the static scale is not zero. -/
theorem ok (m : (ℓ : Loc ProjIdeal.nD ProjIdeal.τ ProjIdeal.sig) → Buf (Elt Ideal) ℓ)
    (h : @Pre_ProjIdeal_x2_scale_ok Pre_x2_scale_ok.Gen.facts m) (c : Dev ProjIdeal.nD) : (ProjBlock.ins m c).sx ≠ 0 :=
  ProjPre.scale _ _ _ _ _ _ _ (h c)

theorem algebraic : @algebraic_ProjIdeal_ProjReferenceIdeal_pre_x2_scale_ok ProjIdeal.Gen.facts ProjReferenceIdeal.Gen.facts
    Pre_x2_scale_ok.Gen.facts := by
  intro m g m' g' hpre hag
  have hins : ∀ c, ProjRef.ins m' c = ProjBlock.ins m c := by
    intro c
    obtain ⟨a0, a1, a2, a3, a4, a5, a6⟩ := hag c
    unfold ProjRef.ins ProjBlock.ins
    rw [a0, a1, a2, a3, a4, a5, a6]
  refine ⟨fun c i => (ProjBlock.ins m c).kX2 (i 0) (i 1), fun c i => (ProjBlock.ins m c).kH (i 0) (i 1), ?_, ?_⟩
  · refine (θ_run _ _ _).mono (fun r h c => ?_) (ProjIdeal.Value.run_blocks m g)
    obtain ⟨h0, h1, hargs⟩ := h c
    exact ⟨h0.trans (ProjBlock.arr7 m c), h1.trans (ProjBlock.arr8 m c), hargs⟩
  · refine (θ_run _ _ _).mono (fun r h c => ?_) (ProjReferenceIdeal.Value.run_blocks m' g')
    obtain ⟨h0, h1, hargs⟩ := h c
    refine ⟨h0.trans ((ProjRef.arr7 m' c).trans ?_), h1.trans ((ProjRef.arr8 m' c).trans ?_), hargs⟩
    · rw [hins]; funext i; exact (congrFun (Ins.x2_same (ok m hpre c) _) _).symm
    · rw [hins]; funext i; exact (congrFun (Ins.h_same _ _) _).symm

end Cert.ProjClaim

end
-- ==== Proof.lean ====
/-
  Every claim of the certificate, put together.
-/
module

public import proofs.«01_k».proof.Defs
public import proofs.«01_k».proof.Proof.Gen.Kernel.Frame
public import proofs.«01_k».proof.Proof.Gen.Pre_scales_ok
public import proofs.«01_k».proof.Proof.Gen.Mlp.Frame
public import proofs.«01_k».proof.Proof.Gen.Proj.Frame
public import proofs.«01_k».proof.Proof.Gen.ProjIdeal.Value
public import proofs.«01_k».proof.Proof.Gen.ProjReferenceIdeal.Value
public import proofs.«01_k».proof.Proof.Gen.Pre_x2_scale_ok
public import proofs.«01_k».proof.Proof.Qkv
public import proofs.«01_k».proof.Proof.Mlp
public import proofs.«01_k».proof.Proof.Proj

@[expose] public section

noncomputable section

namespace Cert.Proof

open Idealize.ShloMosaic Idealize.SL.Sem

/-- Every claim of the certificate. The frames are the generated runs; the three value claims are the QKV equation,
    the feed-forward equation and the output projection's. -/
theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Proj.Gen.facts, Cert.ProjIdeal.Gen.facts, Cert.ProjReferenceIdeal.Gen.facts,
  Cert.Pre_scales_ok.Gen.facts, Cert.Pre_x2_scale_ok.Gen.facts,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ,
  fun m ρ _ => Cert.Mlp.Gen.frame m ρ, fun m ρ _ => Cert.MlpIdeal.Gen.frame m ρ,
  fun m ρ _ => Cert.MlpReferenceIdeal.Gen.frame m ρ,
  fun m ρ _ => Cert.Proj.Gen.frame m ρ, fun m ρ _ => Cert.ProjIdeal.Gen.frame m ρ,
  fun m ρ _ => Cert.ProjIdeal.Gen.frame m ρ, fun m ρ _ => Cert.ProjReferenceIdeal.Gen.frame m ρ,
  fun m ρ _ => Cert.ProjReferenceIdeal.Gen.frame m ρ,
  trivial, Cert.Qkv.algebraic, trivial, Cert.MlpClaim.algebraic, trivial, Cert.ProjClaim.algebraic⟩

end Cert.Proof

end
